-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_floats [hPre_finite_floats : Cert.Pre_finite_floats.Facts] (m : (ℓ : Loc Cert.KernelIdeal.nD Cert.KernelIdeal.τ Cert.KernelIdeal.sig) → Buf (Elt Ideal) ℓ) : Prop :=
  ∀ c : Dev Cert.KernelIdeal.nD,
    (Cert.Pre_finite_floats.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_floats [hPre_finite_floats : Cert.Pre_finite_floats.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_floats.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_floats [hKernelIdeal : Cert.KernelIdeal.Facts] [hPre_finite_floats : Cert.Pre_finite_floats.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_floats m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_floats [hReferenceIdeal : Cert.ReferenceIdeal.Facts] [hPre_finite_floats : Cert.Pre_finite_floats.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_floats m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_floats [hKernelIdeal : Cert.KernelIdeal.Facts] [hReferenceIdeal : Cert.ReferenceIdeal.Facts] [hPre_finite_floats : Cert.Pre_finite_floats.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_floats m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_floats : Cert.Pre_finite_floats.Facts),
    quiescent_Kernel (hKernel := hKernel)
    ∧ quiescent_KernelIdeal (hKernelIdeal := hKernelIdeal)
    ∧ quiescent_KernelIdeal_pre_finite_floats (hKernelIdeal := hKernelIdeal) (hPre_finite_floats := hPre_finite_floats)
    ∧ quiescent_ReferenceIdeal (hReferenceIdeal := hReferenceIdeal)
    ∧ quiescent_ReferenceIdeal_pre_finite_floats (hReferenceIdeal := hReferenceIdeal) (hPre_finite_floats := hPre_finite_floats)
    ∧ preserves_Kernel_KernelIdeal
    ∧ algebraic_KernelIdeal_ReferenceIdeal_pre_finite_floats (hKernelIdeal := hKernelIdeal) (hReferenceIdeal := hReferenceIdeal) (hPre_finite_floats := hPre_finite_floats)
-- ==== Pre_finite_floats.lean ====
abbrev S32768x128 : Shape := ⟨2, ![32768, 128]⟩
abbrev S32768 : Shape := ⟨1, ![32768]⟩
abbrev S64x128 : Shape := ⟨2, ![64, 128]⟩
abbrev S64 : Shape := ⟨1, ![64]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S32768x128 .f32) (main_arg1 : IVec S32768 32) (main_arg2 : FVec F S64x128 .f32) (main_arg3 : FVec F S64 .f32) (main_arg4 : FVec F S64 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S32768x128 : Shape := ⟨2, ![32768, 128]⟩
abbrev S32768 : Shape := ⟨1, ![32768]⟩
abbrev S64x128 : Shape := ⟨2, ![64, 128]⟩
abbrev S64 : Shape := ⟨1, ![64]⟩
abbrev S16x1x2048 : Shape := ⟨3, ![16, 1, 2048]⟩
abbrev S1x64 : Shape := ⟨2, ![1, 64]⟩
abbrev S16x128 : Shape := ⟨2, ![16, 128]⟩
abbrev S1x1x2048 : Shape := ⟨3, ![1, 1, 2048]⟩
abbrev S2048x128 : Shape := ⟨2, ![2048, 128]⟩
abbrev S16x1 : Shape := ⟨2, ![16, 1]⟩
abbrev S1x128 : Shape := ⟨2, ![1, 128]⟩
abbrev S1x1x64 : Shape := ⟨3, ![1, 1, 64]⟩
abbrev S1 : Shape := ⟨1, ![1]⟩
abbrev S1x1x1 : Shape := ⟨3, ![1, 1, 1]⟩
abbrev S8x128 : Shape := ⟨2, ![8, 128]⟩
abbrev S8x2048 : Shape := ⟨2, ![8, 2048]⟩
abbrev S1x2048 : Shape := ⟨2, ![1, 2048]⟩
abbrev S16x2048 : Shape := ⟨2, ![16, 2048]⟩
abbrev S16 : Shape := ⟨1, ![16]⟩

abbrev nBuf : Space → Nat
  | .hbm => 9
  | .vmem => 11
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S16x1x2048, .i32⟩
  | .hbm, ⟨6, _⟩ => ⟨S1x64, .f32⟩
  | .hbm, ⟨7, _⟩ => ⟨S1x64, .f32⟩
  | .hbm, ⟨8, _⟩ => ⟨S16x128, .f32⟩
  | .local _ .vmem, ⟨0, _⟩ => ⟨S1x1x2048, .i32⟩
  | .local _ .vmem, ⟨1, _⟩ => ⟨S1x1x2048, .i32⟩
  | .local _ .vmem, ⟨2, _⟩ => ⟨S2048x128, .f32⟩
  | .local _ .vmem, ⟨3, _⟩ => ⟨S2048x128, .f32⟩
  | .local _ .vmem, ⟨4, _⟩ => ⟨S64x128, .f32⟩
  | .local _ .vmem, ⟨5, _⟩ => ⟨S1x64, .f32⟩
  | .local _ .vmem, ⟨6, _⟩ => ⟨S1x64, .f32⟩
  | .local _ .vmem, ⟨7, _⟩ => ⟨S16x128, .f32⟩
  | .local _ .vmem, ⟨8, _⟩ => ⟨S16x1, .f32⟩
  | .local _ .vmem, ⟨9, _⟩ => ⟨S16x1, .f32⟩
  | .local _ .vmem, ⟨10, _⟩ => ⟨S16x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v65 : BitVec 1 := Scalar.cmpi .eq arg0 c15_i32
  let v66 : BitVec 32 := Scalar.extui v65
  let c0_i32_32 : BitVec 32 := 0#32
  let v67 : BitVec 1 := Scalar.cmpi .ne v66 c0_i32_32
  v67

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S32768x128 : Shape := ⟨2, ![32768, 128]⟩
abbrev S32768 : Shape := ⟨1, ![32768]⟩
abbrev S64x128 : Shape := ⟨2, ![64, 128]⟩
abbrev S64 : Shape := ⟨1, ![64]⟩
abbrev S128x64 : Shape := ⟨2, ![128, 64]⟩
abbrev S32768x64 : Shape := ⟨2, ![32768, 64]⟩
abbrev S1x64 : Shape := ⟨2, ![1, 64]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩
abbrev S_ : Shape := ⟨0, ![]⟩
abbrev S32768x1 : Shape := ⟨2, ![32768, 1]⟩
abbrev S16x128 : Shape := ⟨2, ![16, 128]⟩

abbrev nBuf : Space → Nat
  | .hbm => 57
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768, .i32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S32768x64, .f32⟩
  | .hbm, ⟨7, _⟩ => ⟨S1x64, .f32⟩
  | .hbm, ⟨8, _⟩ => ⟨S32768x64, .f32⟩
  | .hbm, ⟨9, _⟩ => ⟨S32768x64, .f32⟩
  | .hbm, ⟨10, _⟩ => ⟨S32768, .f32⟩
  | .hbm, ⟨11, _⟩ => ⟨S1x32768, .i32⟩
  | .hbm, ⟨12, _⟩ => ⟨S16, .i32⟩
  | .hbm, ⟨13, _⟩ => ⟨S16x1, .i32⟩
  | .hbm, ⟨14, _⟩ => ⟨S16x32768, .i32⟩
  | .hbm, ⟨15, _⟩ => ⟨S16x32768, .i32⟩
  | .hbm, ⟨16, _⟩ => ⟨S16x32768, .i1⟩
  | .hbm, ⟨17, _⟩ => ⟨S1x32768, .f32⟩
  | .hbm, ⟨18, _⟩ => ⟨S_, .f32⟩
  | .hbm, ⟨19, _⟩ => ⟨S_, .f32⟩
  | .hbm, ⟨20, _⟩ => ⟨S16x32768, .f32⟩
  | .hbm, ⟨21, _⟩ => ⟨S16x32768, .f32⟩
  | .hbm, ⟨22, _⟩ => ⟨S16x32768, .f32⟩
  | .hbm, ⟨23, _⟩ => ⟨S_, .f32⟩
  | .hbm, ⟨24, _⟩ => ⟨S16, .f32⟩
  | .hbm, ⟨25, _⟩ => ⟨S_, .i32⟩
  | .hbm, ⟨26, _⟩ => ⟨S32768, .i32⟩
  | .hbm, ⟨27, _⟩ => ⟨S32768, .i1⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S32768x1, .i32⟩
  | .hbm, ⟨33, _⟩ => ⟨S32768, .f32⟩
  | .hbm, ⟨34, _⟩ => ⟨S32768, .f32⟩
  | .hbm, ⟨35, _⟩ => ⟨S32768, .f32⟩
  | .hbm, ⟨36, _⟩ => ⟨S_, .f32⟩
  | .hbm, ⟨37, _⟩ => ⟨S16, .f32⟩
  | .hbm, ⟨38, _⟩ => ⟨S32768x1, .i32⟩
  | .hbm, ⟨39, _⟩ => ⟨S16, .f32⟩
  | .hbm, ⟨40, _⟩ => ⟨S_, .i32⟩
  | .hbm, ⟨41, _⟩ => ⟨S32768, .i32⟩
  | .hbm, ⟨42, _⟩ => ⟨S32768, .i1⟩
  | .hbm, ⟨43, _⟩ => ⟨S_, .i32⟩
  | .hbm, ⟨44, _⟩ => ⟨S32768, .i32⟩
  | .hbm, ⟨45, _⟩ => ⟨S32768, .i32⟩
  | .hbm, ⟨46, _⟩ => ⟨S32768, .i32⟩
  | .hbm, ⟨47, _⟩ => ⟨S32768x1, .i32⟩
  | .hbm, ⟨48, _⟩ => ⟨S32768, .f32⟩
  | .hbm, ⟨49, _⟩ => ⟨S32768, .f32⟩
  | .hbm, ⟨50, _⟩ => ⟨S32768x1, .f32⟩
  | .hbm, ⟨51, _⟩ => ⟨S32768x128, .f32⟩
  | .hbm, ⟨52, _⟩ => ⟨S32768x128, .f32⟩
  | .hbm, ⟨53, _⟩ => ⟨S_, .f32⟩
  | .hbm, ⟨54, _⟩ => ⟨S16x128, .f32⟩
  | .hbm, ⟨55, _⟩ => ⟨S32768x1, .i32⟩
  | .hbm, ⟨56, _⟩ => ⟨S16x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Proof.Finite.lean ====
module

public import proofs.«01_k».proof.Proof.Gen.Pre_finite_floats
public import Idealize.ShloMosaic.PureOps.Ideal
public import Idealize.ShloMosaic.Lib.ReduceAll
public import Idealize.ShloMosaic.Lib.Affine

@[expose] public section

noncomputable section

namespace Cert.Proof.Finite

open Idealize.ShloMosaic Cert.Pre_finite_floats

/-!
  What the precondition says: every element of the four float arguments is a real number.
-/

/-- The bit pattern of plus infinity denotes `⊤`. -/
theorem ofBits_inf : Ideal.ofBits .f32 0x7F800000#32 = ⊤ := by
  simp [Ideal.ofBits, Ideal.ieee]

/-- A value whose magnitude compares below infinity is a real number. -/
theorem real_of_abs_lt {y : EReal} (h : Ideal.cmp .olt (max y (-y)) (Ideal.ofBits .f32 0x7F800000#32) = 1#1) :
    y = ((y.toReal : ℝ) : EReal) := by
  rw [ofBits_inf] at h
  have hlt : max y (-y) < ⊤ := by
    by_contra hn
    simp [Ideal.cmp, hn] at h
  refine (EReal.coe_toReal ?_ ?_).symm
  · rintro rfl; simp at hlt
  · rintro rfl; simp at hlt

/-- The conjunction over all elements of "the magnitude is below infinity" says that every element is a real number. -/
theorem all_real {s : Shape} {axes : List (Fin s.rank)} (x : FVec Ideal s .f32) (hb : S_.BroadcastsInDim s (![] : Fin 0 → Fin s.rank))
    (h : s.ReducesTo axes S_) (hu : 0 < S_.numel) (init : IVec S_ 1) (j : S_.Idx)
    (e : Host.reduce IntOp.andi (cmpf .olt (Host.absf x) (broadcastInDim s ![] hb (constant (F := Ideal) S_ .f32 0x7F800000#32))) init h hu j = 1#1)
    (i : s.Idx) : x i = (((x i : EReal).toReal : ℝ) : EReal) :=
  haveI : Subsingleton S_.Idx := ⟨fun a b => funext fun q => q.elim0⟩
  real_of_abs_lt (Host.reduce_andi_all _ init h hu j e i)

/-- On arguments that satisfy the precondition, every element of the four float arguments is a real number. -/
theorem fn_real [Facts] {x : FVec Ideal S32768x128 .f32} {mk : IVec S32768 32} {W : FVec Ideal S64x128 .f32} {b v : FVec Ideal S64 .f32}
    (h : fn (F := Ideal) x mk W b v = fun _ => 1#1) :
    (∀ i, x i = (((x i : EReal).toReal : ℝ) : EReal)) ∧ (∀ i, W i = (((W i : EReal).toReal : ℝ) : EReal))
      ∧ (∀ i, b i = (((b i : EReal).toReal : ℝ) : EReal)) ∧ (∀ i, v i = (((v i : EReal).toReal : ℝ) : EReal)) := by
  have e := congrFun h (fun q => q.elim0)
  unfold fn fn_part1 at e
  obtain ⟨e, hv⟩ := IntOp.andi_eq_one.1 e
  obtain ⟨e, hb⟩ := IntOp.andi_eq_one.1 e
  obtain ⟨hx, hW⟩ := IntOp.andi_eq_one.1 e
  exact ⟨all_real x _ _ _ _ _ hx, all_real W _ _ _ _ _ hW, all_real b _ _ _ _ _ hb, all_real v _ _ _ _ _ hv⟩

end Cert.Proof.Finite

end
-- ==== Proof.Words.lean ====
module

public import Idealize.ShloMosaic.PureOps.Ideal

@[expose] public section

noncomputable section

namespace Cert.Proof.Words

open Idealize.ShloMosaic

/-!
  Constants and selections as both programs write them.
-/

/-- The bit pattern of minus infinity denotes `⊥`. -/
theorem ofBits_negInf : Ideal.ofBits .f32 0xFF800000#32 = ⊥ := by
  simp [Ideal.ofBits, Ideal.ieee]

/-- A selection by a comparison for equality of two words is the `if` on their equality. -/
theorem select_eq {α : Type} {w : ℕ} (u z : BitVec w) (p q : α) : Scalar.select (IntOp.cmpi .eq u z) p q = if u = z then p else q := by
  by_cases h : u = z
  · subst h; simp [Scalar.select, IntOp.cmpi]
  · have e : (u == z) = false := by simpa using h
    simp [Scalar.select, IntOp.cmpi, h, e]

/-- A selection by a decided proposition is the `if` on it. -/
theorem select_decide {α : Type} (P : Prop) [Decidable P] (p q : α) : Scalar.select (BitVec.ofBool (decide P)) p q = if P then p else q := by
  by_cases h : P <;> simp [Scalar.select, h]

end Cert.Proof.Words

end
-- ==== Proof.Payload.lean ====
module

public import proofs.«01_k».proof.Proof.Gen.KernelIdeal.Skeleton
public import proofs.«01_k».proof.Proof.Words
public import Idealize.ShloMosaic.Lib.Pointwise

@[expose] public section

noncomputable section

namespace Cert.Proof.Payload

open Idealize.ShloMosaic Cert.KernelIdeal Cert.KernelIdeal.Gen Cert.Proof.Words
open scoped BigOperators

/-!
  What one grid point stores, read at an index: each stored array of the kernel's body as a formula of the blocks it reads and of the
  state it carries.
-/

/-- The score of row `r` of the block: the score vector times the weight matrix, against the row, plus the score vector against
    the bias. -/
theorem score_apply (x : Vec Ideal S2048x128 .f32) (v : Vec Ideal S1x64 .f32) (W : Vec Ideal S64x128 .f32)
    (b : Vec Ideal S1x64 .f32) (r : Fin 2048) :
    k0_pay10 (F := Ideal) x v W b (ix2 0 r)
      = (∑ d : Fin 128, (∑ a : Fin 64, v (ix2 0 a) * W (ix2 a d)) * x (ix2 r d)) + ∑ a : Fin 64, v (ix2 0 a) * b (ix2 0 a) := by
  pointwise [k0_pay10]
  rw [Fin.sum_univ_one]

/-- Whether row `r` of the block belongs to segment `k`: whether its segment number is the word of `k`. -/
theorem member_apply (mk : Vec Ideal S1x1x2048 .i32) (k : Fin 16) (r : Fin 2048) :
    k0_pay11 (F := Ideal) mk (ix2 k r) = IntOp.cmpi .eq (BitVec.ofNat 32 k.val) (mk (ix3 0 0 r)) := by
  pointwise [k0_pay11]

/-- The new maximum of segment `k`: the larger of the old one and the largest score of the segment's rows in the block. -/
theorem newMax_apply (x : Vec Ideal S2048x128 .f32) (v : Vec Ideal S1x64 .f32) (W : Vec Ideal S64x128 .f32)
    (b : Vec Ideal S1x64 .f32) (mk : Vec Ideal S1x1x2048 .i32) (m : Vec Ideal S16x1 .f32) (k : Fin 16) :
    k0_pay12 (F := Ideal) x v W b mk m (ix2 k 0)
      = max (m (ix2 k 0)) (Finset.univ.fold max ⊥ fun r : Fin 2048 =>
          Scalar.select (k0_pay11 (F := Ideal) mk (ix2 k r)) (k0_pay10 (F := Ideal) x v W b (ix2 0 r)) ⊥) := by
  pointwise [k0_pay12]
  rw [ofBits_negInf]

/-- Whether segment `k` has had no row so far: whether its old maximum is `⊥`. -/
theorem isFirst_apply (m : Vec Ideal S16x1 .f32) (k : Fin 16) :
    k0_pay13 (F := Ideal) m (ix2 k 0) = BitVec.ofBool (decide (m (ix2 k 0) = ⊥)) := by
  pointwise [k0_pay13]
  rw [ofBits_negInf]

/-- The old maximum of segment `k` less the new one. -/
theorem drop_apply (x : Vec Ideal S2048x128 .f32) (v : Vec Ideal S1x64 .f32) (W : Vec Ideal S64x128 .f32)
    (b : Vec Ideal S1x64 .f32) (mk : Vec Ideal S1x1x2048 .i32) (m : Vec Ideal S16x1 .f32) (k : Fin 16) :
    k0_pay14 (F := Ideal) x v W b mk m (ix2 k 0) = m (ix2 k 0) - k0_pay12 (F := Ideal) x v W b mk m (ix2 k 0) := by
  pointwise [k0_pay14]

/-- The factor by which the old sums of segment `k` are rescaled: zero if it has had no row, otherwise the exponential of the drop. -/
theorem scale_apply (f : IVec S16x1 1) (e : FVec Ideal S16x1 .f32) (k : Fin 16) :
    k0_pay1 (F := Ideal) f e (ix2 k 0) = Scalar.select (f (ix2 k 0)) 0 (Ideal.exp (e (ix2 k 0))) := by
  pointwise [k0_pay1]

/-- The weight of row `r` of the block in segment `k`: the exponential of its score less the new maximum, zero if it is not of the segment. -/
theorem weight_apply (s : FVec Ideal S1x2048 .f32) (oh : IVec S16x2048 1) (mn : FVec Ideal S16x1 .f32) (k : Fin 16) (r : Fin 2048) :
    k0_pay2 (F := Ideal) s oh mn (ix2 k r) = Scalar.select (oh (ix2 k r)) (Ideal.exp (s (ix2 0 r) - mn (ix2 k 0))) 0 := by
  pointwise [k0_pay2]

/-- The new sum of exponentials of segment `k`: the old one rescaled, plus the weights of the block. -/
theorem newSum_apply (s : FVec Ideal S1x2048 .f32) (oh : IVec S16x2048 1) (mn : FVec Ideal S16x1 .f32)
    (f : IVec S16x1 1) (e : FVec Ideal S16x1 .f32) (l : Vec Ideal S16x1 .f32) (k : Fin 16) :
    k0_pay3 (F := Ideal) s oh mn f e l (ix2 k 0)
      = l (ix2 k 0) * k0_pay1 (F := Ideal) f e (ix2 k 0) + ∑ r : Fin 2048, k0_pay2 (F := Ideal) s oh mn (ix2 k r) := by
  pointwise [k0_pay3]

/-- The new weighted sum of rows of segment `k` at column `d`: the old one rescaled, plus the block's rows times their weights. -/
theorem newAcc_apply (x : Vec Ideal S2048x128 .f32) (s : FVec Ideal S1x2048 .f32) (oh : IVec S16x2048 1) (mn : FVec Ideal S16x1 .f32)
    (f : IVec S16x1 1) (e : FVec Ideal S16x1 .f32) (acc : Vec Ideal S16x128 .f32) (k : Fin 16) (d : Fin 128) :
    k0_pay5 (F := Ideal) x s oh mn f e acc (ix2 k d)
      = acc (ix2 k d) * k0_pay1 (F := Ideal) f e (ix2 k 0) + ∑ r : Fin 2048, k0_pay2 (F := Ideal) s oh mn (ix2 k r) * x (ix2 r d) := by
  pointwise [k0_pay5]

/-- What the last point writes at segment `k` and column `d`: the weighted sum times the reciprocal of the sum of exponentials, zero if
    that sum is not positive. -/
theorem out_apply (l : Vec Ideal S16x1 .f32) (acc : Vec Ideal S16x128 .f32) (k : Fin 16) (d : Fin 128) :
    k0_pay6 (F := Ideal) l acc (ix2 k d)
      = acc (ix2 k d) * Scalar.select (BitVec.ofBool (decide (0 < l (ix2 k 0)))) (Ideal.div 1 (l (ix2 k 0))) 0 := by
  pointwise [k0_pay6]

/-- The new maximum is stored as it is. -/
theorem keep_eq (mn : FVec Ideal S16x1 .f32) : k0_pay4 (F := Ideal) mn = mn := by
  unfold k0_pay4; exact shapeCast_self _ _

/-- The maximum starts at `⊥`. -/
theorem max0_apply (k : Fin 16) : k0_pay7 (F := Ideal) (ix2 k 0) = ⊥ := by
  pointwise [k0_pay7]
  exact ofBits_negInf

/-- The sum of exponentials starts at zero. -/
theorem sum0_apply (k : Fin 16) : k0_pay8 (F := Ideal) (ix2 k 0) = 0 := by
  pointwise [k0_pay8]

/-- The weighted sum of rows starts at zero. -/
theorem acc0_apply (k : Fin 16) (d : Fin 128) : k0_pay9 (F := Ideal) (ix2 k d) = 0 := by
  pointwise [k0_pay9]

end Cert.Proof.Payload

end
-- ==== Proof.Step.lean ====
module

public import proofs.«01_k».proof.Proof.Gen.KernelIdeal.Frame
public import Idealize.ShloMosaic.Lib.Pipeline.Value

@[expose] public section

set_option maxRecDepth 16384

noncomputable section

namespace Cert.Proof.Step

open Idealize.ShloMosaic Idealize.ShloMosaic.TcCoe Idealize.ShloMosaic.Tactic Idealize.SL.Sem
open Cert.KernelIdeal Cert.KernelIdeal.Gen

/-!
  What one grid point of the kernel does to its three scratch arrays, and to its output block at the last point.

  A grid point reads a block of 2048 rows (`x0` the segment numbers of the rows, `x1` the rows themselves, `x2` the
  weight matrix, `x3` the bias, `x4` the score vector). It carries, per segment, the running maximum, the running sum of
  exponentials and the running weighted sum of rows. The first point starts these from the kernel's initial values, the
  others from what the point before left, and the last one also writes the output block. The theorems below say that the
  stored arrays are the functions `nextMax`, `nextSum`, `nextAcc` of what was carried in, whichever point it is.
-/

variable {F : FTy → Type} [FloatOps F]

/-- The running maximum a grid point leaves, from the block it reads and the running maximum `m` it found. -/
def nextMax (x0 : Vec F S1x1x2048 .i32) (x1 : Vec F S2048x128 .f32) (x2 : Vec F S64x128 .f32) (x3 x4 : Vec F S1x64 .f32)
    (m : Vec F S16x1 .f32) : Vec F S16x1 .f32 :=
  k0_pay4 (k0_pay12 x1 x4 x2 x3 x0 m)

/-- The running sum of exponentials a grid point leaves, from the maximum `m` and the sum `l` it found. -/
def nextSum (x0 : Vec F S1x1x2048 .i32) (x1 : Vec F S2048x128 .f32) (x2 : Vec F S64x128 .f32) (x3 x4 : Vec F S1x64 .f32)
    (m l : Vec F S16x1 .f32) : Vec F S16x1 .f32 :=
  k0_pay3 (k0_pay10 x1 x4 x2 x3) (k0_pay11 x0) (k0_pay12 x1 x4 x2 x3 x0 m) (k0_pay13 m) (k0_pay14 x1 x4 x2 x3 x0 m) l

/-- The running weighted sum of rows a grid point leaves, from the maximum `m` and the weighted sum `a` it found. -/
def nextAcc (x0 : Vec F S1x1x2048 .i32) (x1 : Vec F S2048x128 .f32) (x2 : Vec F S64x128 .f32) (x3 x4 : Vec F S1x64 .f32)
    (m : Vec F S16x1 .f32) (a : Vec F S16x128 .f32) : Vec F S16x128 .f32 :=
  k0_pay5 x1 (k0_pay10 x1 x4 x2 x3) (k0_pay11 x0) (k0_pay12 x1 x4 x2 x3 x0 m) (k0_pay13 m) (k0_pay14 x1 x4 x2 x3 x0 m) a

/-- Two zero offsets are the zero offset function. -/
theorem hz2 : (![0, 0] : Fin 2 → Nat) = fun _ => 0 := funext fun a => by fin_cases a <;> rfl

/-- Three zero offsets are the zero offset function. -/
theorem hz3 : (![0, 0, 0] : Fin 3 → Nat) = fun _ => 0 := funext fun a => by fin_cases a <;> rfl

variable (c : Dev nD) (i : grid0.Coords)
  (arg1 : Memref sig .tc .vmem S1x1x2048 .i32) (harg1 : arg1.IsWhole)
  (arg2 : Memref sig .tc .vmem S2048x128 .f32) (harg2 : arg2.IsWhole)
  (arg3 : Memref sig .tc .vmem S64x128 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S16x128 .f32) (harg6 : arg6.IsWhole)
  (arg7 : Memref sig .tc .vmem S16x1 .f32) (harg7 : arg7.IsWhole)
  (arg8 : Memref sig .tc .vmem S16x1 .f32) (harg8 : arg8.IsWhole)
  (arg9 : Memref sig .tc .vmem S16x128 .f32) (harg9 : arg9.IsWhole)
  (x0 : Vec F S1x1x2048 .i32) (x1 : Vec F S2048x128 .f32) (x2 : Vec F S64x128 .f32) (x3 x4 : Vec F S1x64 .f32)

/-- What the first point leaves in the running maximum. -/
theorem max_A (hc0 : cond0_0 i) (hc1 : ¬cond0_1 i) :
    sout0_A_0 c i arg1 harg1 arg2 harg2 arg3 harg3 arg4 harg4 arg5 harg5 arg6 harg6 arg7 harg7 arg8 harg8 arg9 harg9 hc0 hc1 x0 x1 x2 x3 x4
      = nextMax x0 x1 x2 x3 x4 k0_pay7 := by
  unfold sout0_A_0 nextMax
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S16x1) hz2]
  simp only [View.readCov_unit_zero (S := S16x1) _ hz2, View.readCov_unit_zero (S := S16x128) _ hz2, View.readAt_eq_ld, harg1.read_unread, harg2.read_unread, harg3.read_unread, harg4.read_unread, harg5.read_unread, harg7.read_unread, harg8.read_unread, harg9.read_unread,
    View.ld_unit_zero (S := S1x1x2048) hz3, View.ld_unit_zero (S := S2048x128) hz2, View.ld_unit_zero (S := S64x128) hz2, View.ld_unit_zero (S := S1x64) hz2,
    View.ld_unit_zero (S := S16x1) hz2, View.ld_unit_zero (S := S16x128) hz2]

/-- What the first point leaves in the running sum of exponentials. -/
theorem sum_A (hc0 : cond0_0 i) (hc1 : ¬cond0_1 i) :
    sout0_A_1 c i arg1 harg1 arg2 harg2 arg3 harg3 arg4 harg4 arg5 harg5 arg6 harg6 arg7 harg7 arg8 harg8 arg9 harg9 hc0 hc1 x0 x1 x2 x3 x4
      = nextSum x0 x1 x2 x3 x4 k0_pay7 k0_pay8 := by
  unfold sout0_A_1 nextSum
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S16x1) hz2]
  simp only [View.readCov_unit_zero (S := S16x1) _ hz2, View.readCov_unit_zero (S := S16x128) _ hz2, View.readAt_eq_ld, harg1.read_unread, harg2.read_unread, harg3.read_unread, harg4.read_unread, harg5.read_unread, harg7.read_unread, harg8.read_unread, harg9.read_unread,
    View.ld_unit_zero (S := S1x1x2048) hz3, View.ld_unit_zero (S := S2048x128) hz2, View.ld_unit_zero (S := S64x128) hz2, View.ld_unit_zero (S := S1x64) hz2,
    View.ld_unit_zero (S := S16x1) hz2, View.ld_unit_zero (S := S16x128) hz2]

/-- What the first point leaves in the running weighted sum of rows. -/
theorem acc_A (hc0 : cond0_0 i) (hc1 : ¬cond0_1 i) :
    sout0_A_2 c i arg1 harg1 arg2 harg2 arg3 harg3 arg4 harg4 arg5 harg5 arg6 harg6 arg7 harg7 arg8 harg8 arg9 harg9 hc0 hc1 x0 x1 x2 x3 x4
      = nextAcc x0 x1 x2 x3 x4 k0_pay7 k0_pay9 := by
  unfold sout0_A_2 nextAcc
  rw [View.read_writes_eq_canon _ _ _ (scover0_A_2 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S16x128) hz2]
  simp only [View.readCov_unit_zero (S := S16x1) _ hz2, View.readCov_unit_zero (S := S16x128) _ hz2, View.readAt_eq_ld, harg1.read_unread, harg2.read_unread, harg3.read_unread, harg4.read_unread, harg5.read_unread, harg7.read_unread, harg8.read_unread, harg9.read_unread,
    View.ld_unit_zero (S := S1x1x2048) hz3, View.ld_unit_zero (S := S2048x128) hz2, View.ld_unit_zero (S := S64x128) hz2, View.ld_unit_zero (S := S1x64) hz2,
    View.ld_unit_zero (S := S16x1) hz2, View.ld_unit_zero (S := S16x128) hz2]

/-- What a point in the middle leaves in the running maximum. -/
theorem max_B (hc0 : ¬cond0_0 i) (hc1 : ¬cond0_1 i) (m l : Vec F S16x1 .f32) (a : Vec F S16x128 .f32) :
    sout0_B_0 c i arg1 harg1 arg2 harg2 arg3 harg3 arg4 harg4 arg5 harg5 arg6 harg6 arg7 harg7 arg8 harg8 arg9 harg9 hc0 hc1 x0 x1 x2 x3 x4 m l a
      = nextMax x0 x1 x2 x3 x4 m := by
  unfold sout0_B_0 nextMax
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 m l a)]
  unfold kernelRun0_B
  dsimp only
  sl_unfold_words
  rw [View.canon_unit_zero (S := S16x1) hz2]
  simp only [View.readAt_eq_ld, harg1.read_unread, harg2.read_unread, harg3.read_unread, harg4.read_unread, harg5.read_unread, harg7.read_unread, harg8.read_unread, harg9.read_unread,
    View.ld_unit_zero (S := S1x1x2048) hz3, View.ld_unit_zero (S := S2048x128) hz2, View.ld_unit_zero (S := S64x128) hz2, View.ld_unit_zero (S := S1x64) hz2,
    View.ld_unit_zero (S := S16x1) hz2, View.ld_unit_zero (S := S16x128) hz2]

/-- What a point in the middle leaves in the running sum of exponentials. -/
theorem sum_B (hc0 : ¬cond0_0 i) (hc1 : ¬cond0_1 i) (m l : Vec F S16x1 .f32) (a : Vec F S16x128 .f32) :
    sout0_B_1 c i arg1 harg1 arg2 harg2 arg3 harg3 arg4 harg4 arg5 harg5 arg6 harg6 arg7 harg7 arg8 harg8 arg9 harg9 hc0 hc1 x0 x1 x2 x3 x4 m l a
      = nextSum x0 x1 x2 x3 x4 m l := by
  unfold sout0_B_1 nextSum
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 m l a)]
  unfold kernelRun0_B
  dsimp only
  sl_unfold_words
  rw [View.canon_unit_zero (S := S16x1) hz2]
  simp only [View.readAt_eq_ld, harg1.read_unread, harg2.read_unread, harg3.read_unread, harg4.read_unread, harg5.read_unread, harg7.read_unread, harg8.read_unread, harg9.read_unread,
    View.ld_unit_zero (S := S1x1x2048) hz3, View.ld_unit_zero (S := S2048x128) hz2, View.ld_unit_zero (S := S64x128) hz2, View.ld_unit_zero (S := S1x64) hz2,
    View.ld_unit_zero (S := S16x1) hz2, View.ld_unit_zero (S := S16x128) hz2]

/-- What a point in the middle leaves in the running weighted sum of rows. -/
theorem acc_B (hc0 : ¬cond0_0 i) (hc1 : ¬cond0_1 i) (m l : Vec F S16x1 .f32) (a : Vec F S16x128 .f32) :
    sout0_B_2 c i arg1 harg1 arg2 harg2 arg3 harg3 arg4 harg4 arg5 harg5 arg6 harg6 arg7 harg7 arg8 harg8 arg9 harg9 hc0 hc1 x0 x1 x2 x3 x4 m l a
      = nextAcc x0 x1 x2 x3 x4 m a := by
  unfold sout0_B_2 nextAcc
  rw [View.read_writes_eq_canon _ _ _ (scover0_B_2 c i arg1 harg1 arg2 harg2 arg3 harg3 arg4 harg4 arg5 harg5 arg6 harg6 arg7 harg7 arg8 harg8 arg9 harg9 hc0 hc1 x0 x1 x2 x3 x4 m l a)]
  unfold kernelRun0_B
  dsimp only
  sl_unfold_words
  rw [View.canon_unit_zero (S := S16x128) hz2]
  simp only [View.readAt_eq_ld, harg1.read_unread, harg2.read_unread, harg3.read_unread, harg4.read_unread, harg5.read_unread, harg7.read_unread, harg8.read_unread, harg9.read_unread,
    View.ld_unit_zero (S := S1x1x2048) hz3, View.ld_unit_zero (S := S2048x128) hz2, View.ld_unit_zero (S := S64x128) hz2, View.ld_unit_zero (S := S1x64) hz2,
    View.ld_unit_zero (S := S16x1) hz2, View.ld_unit_zero (S := S16x128) hz2]

/-- What the last point leaves in the running maximum. -/
theorem max_C (hc0 : ¬cond0_0 i) (hc1 : cond0_1 i) (m l : Vec F S16x1 .f32) (a : Vec F S16x128 .f32) :
    sout0_C_0 c i arg1 harg1 arg2 harg2 arg3 harg3 arg4 harg4 arg5 harg5 arg6 harg6 arg7 harg7 arg8 harg8 arg9 harg9 hc0 hc1 x0 x1 x2 x3 x4 m l a
      = nextMax x0 x1 x2 x3 x4 m := by
  unfold sout0_C_0 nextMax
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 m l a)]
  unfold kernelRun0_C
  dsimp only
  sl_unfold_words
  rw [View.canon_unit_zero (S := S16x1) hz2]
  simp only [View.readAt_eq_ld, harg1.read_unread, harg2.read_unread, harg3.read_unread, harg4.read_unread, harg5.read_unread, harg7.read_unread, harg8.read_unread, harg9.read_unread,
    View.ld_unit_zero (S := S1x1x2048) hz3, View.ld_unit_zero (S := S2048x128) hz2, View.ld_unit_zero (S := S64x128) hz2, View.ld_unit_zero (S := S1x64) hz2,
    View.ld_unit_zero (S := S16x1) hz2, View.ld_unit_zero (S := S16x128) hz2]

/-- What the last point leaves in the running sum of exponentials. -/
theorem sum_C (hc0 : ¬cond0_0 i) (hc1 : cond0_1 i) (m l : Vec F S16x1 .f32) (a : Vec F S16x128 .f32) :
    sout0_C_1 c i arg1 harg1 arg2 harg2 arg3 harg3 arg4 harg4 arg5 harg5 arg6 harg6 arg7 harg7 arg8 harg8 arg9 harg9 hc0 hc1 x0 x1 x2 x3 x4 m l a
      = nextSum x0 x1 x2 x3 x4 m l := by
  unfold sout0_C_1 nextSum
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 m l a)]
  unfold kernelRun0_C
  dsimp only
  sl_unfold_words
  rw [View.canon_unit_zero (S := S16x1) hz2]
  simp only [View.readAt_eq_ld, harg1.read_unread, harg2.read_unread, harg3.read_unread, harg4.read_unread, harg5.read_unread, harg7.read_unread, harg8.read_unread, harg9.read_unread,
    View.ld_unit_zero (S := S1x1x2048) hz3, View.ld_unit_zero (S := S2048x128) hz2, View.ld_unit_zero (S := S64x128) hz2, View.ld_unit_zero (S := S1x64) hz2,
    View.ld_unit_zero (S := S16x1) hz2, View.ld_unit_zero (S := S16x128) hz2]

/-- What the last point leaves in the running weighted sum of rows. -/
theorem acc_C (hc0 : ¬cond0_0 i) (hc1 : cond0_1 i) (m l : Vec F S16x1 .f32) (a : Vec F S16x128 .f32) :
    sout0_C_2 c i arg1 harg1 arg2 harg2 arg3 harg3 arg4 harg4 arg5 harg5 arg6 harg6 arg7 harg7 arg8 harg8 arg9 harg9 hc0 hc1 x0 x1 x2 x3 x4 m l a
      = nextAcc x0 x1 x2 x3 x4 m a := by
  unfold sout0_C_2 nextAcc
  rw [View.read_writes_eq_canon _ _ _ (scover0_C_2 c i arg1 harg1 arg2 harg2 arg3 harg3 arg4 harg4 arg5 harg5 arg6 harg6 arg7 harg7 arg8 harg8 arg9 harg9 hc0 hc1 x0 x1 x2 x3 x4 m l a)]
  unfold kernelRun0_C
  dsimp only
  sl_unfold_words
  rw [View.canon_unit_zero (S := S16x128) hz2]
  simp only [View.readAt_eq_ld, harg1.read_unread, harg2.read_unread, harg3.read_unread, harg4.read_unread, harg5.read_unread, harg7.read_unread, harg8.read_unread, harg9.read_unread,
    View.ld_unit_zero (S := S1x1x2048) hz3, View.ld_unit_zero (S := S2048x128) hz2, View.ld_unit_zero (S := S64x128) hz2, View.ld_unit_zero (S := S1x64) hz2,
    View.ld_unit_zero (S := S16x1) hz2, View.ld_unit_zero (S := S16x128) hz2]

/-- What the last point writes to the output block: the final division of the weighted sum by the sum it has just left. -/
theorem out_C (hc0 : ¬cond0_0 i) (hc1 : cond0_1 i) (m l : Vec F S16x1 .f32) (a : Vec F S16x128 .f32) :
    out0_C_5 c i arg1 harg1 arg2 harg2 arg3 harg3 arg4 harg4 arg5 harg5 arg6 harg6 arg7 harg7 arg8 harg8 arg9 harg9 hc0 hc1 x0 x1 x2 x3 x4 m l a
      = k0_pay6 (nextSum x0 x1 x2 x3 x4 m l) (nextAcc x0 x1 x2 x3 x4 m a) := by
  unfold out0_C_5 nextSum nextAcc
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 m l a)]
  unfold kernelRun0_C
  dsimp only
  sl_unfold_words
  rw [View.canon_unit_zero (S := S16x128) hz2]
  simp only [View.readCov_unit_zero (S := S16x1) _ hz2, View.readCov_unit_zero (S := S16x128) _ hz2, View.readAt_eq_ld, harg1.read_unread, harg2.read_unread, harg3.read_unread, harg4.read_unread, harg5.read_unread, harg7.read_unread, harg8.read_unread, harg9.read_unread,
    View.ld_unit_zero (S := S1x1x2048) hz3, View.ld_unit_zero (S := S2048x128) hz2, View.ld_unit_zero (S := S64x128) hz2, View.ld_unit_zero (S := S1x64) hz2,
    View.ld_unit_zero (S := S16x1) hz2, View.ld_unit_zero (S := S16x128) hz2]

end Cert.Proof.Step

end
-- ==== Proof.Online.lean ====
module

public import Idealize.ShloMosaic.PureOps.Ideal

@[expose] public section

noncomputable section

namespace Cert.Proof.Online

open Idealize.ShloMosaic
open scoped BigOperators

/-!
  The arithmetic of a softmax-weighted sum over one segment, computed block by block.

  A segment is a set of rows, each with a real score `s` and a real entry `x`. The quantity wanted is `A / L`, where `L` is
  the sum of `exp s` over the segment and `A` the sum of `exp s * x`. The block-by-block computation carries a running
  maximum, and both sums scaled down by the exponential of that maximum; the scaling cancels in the quotient. Everything
  here is about extended reals and real numbers only: no program occurs.
-/

/-- The state carried for one segment stands for the exact sums `L` and `A`: either no row of the segment has been met (the
    maximum is `-∞` and all sums are zero), or the maximum is a real `M` and the carried sums are `L` and `A` scaled by
    `exp (-M)`. -/
def Stands (L A : ℝ) (m l a : EReal) : Prop :=
  (m = ⊥ ∧ l = 0 ∧ a = 0 ∧ L = 0 ∧ A = 0)
    ∨ ∃ M : ℝ, m = (M : EReal) ∧ l = ((Real.exp (-M) * L : ℝ) : EReal) ∧ a = ((Real.exp (-M) * A : ℝ) : EReal)

/-- The starting state stands for empty sums. -/
theorem stands_start : Stands 0 0 ⊥ 0 0 := Or.inl ⟨rfl, rfl, rfl, rfl, rfl⟩

/-- A sum of reals, read as an extended real, is the extended-real sum. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The exponential of a real is the real exponential. -/
theorem exp_coe (r : ℝ) : Ideal.exp (r : EReal) = ((Real.exp r : ℝ) : EReal) := rfl

/-- The largest score among the members of a finite set of rows, `-∞` standing for a row that is no member: it is `-∞` when
    there is no member, and a real number otherwise. -/
theorem max_members {n : ℕ} (p : Fin n → Prop) [DecidablePred p] (s : Fin n → ℝ) :
    ((∀ r, ¬ p r) ∧ (Finset.univ.fold max (⊥ : EReal) fun r => if p r then (s r : EReal) else ⊥) = ⊥)
      ∨ ((∃ r, p r) ∧ ∃ M : ℝ, (Finset.univ.fold max (⊥ : EReal) fun r => if p r then (s r : EReal) else ⊥) = (M : EReal)) := by
  have e : (Finset.univ.fold max (⊥ : EReal) fun r => if p r then (s r : EReal) else ⊥)
      = Finset.univ.sup fun r => if p r then (s r : EReal) else ⊥ := rfl
  rw [e]
  by_cases h : ∃ r, p r
  · refine Or.inr ⟨h, ?_⟩
    obtain ⟨r, hr⟩ := h
    have htop : (Finset.univ.sup fun r => if p r then (s r : EReal) else ⊥) ≠ ⊤ := by
      refine ne_of_lt ((Finset.sup_lt_iff bot_lt_top).2 fun i _ => ?_)
      by_cases hi : p i
      · rw [if_pos hi]; exact EReal.coe_lt_top _
      · rw [if_neg hi]; exact bot_lt_top
    have hbot : (Finset.univ.sup fun r => if p r then (s r : EReal) else ⊥) ≠ ⊥ := by
      refine ne_of_gt (lt_of_lt_of_le (EReal.bot_lt_coe (s r)) ?_)
      have := Finset.le_sup (f := fun r => if p r then (s r : EReal) else ⊥) (Finset.mem_univ r)
      simpa only [if_pos hr] using this
    exact ⟨_, (EReal.coe_toReal htop hbot).symm⟩
  · refine Or.inl ⟨fun r hr => h ⟨r, hr⟩, ?_⟩
    rw [Finset.sup_eq_bot_iff]
    intro i _
    rw [if_neg fun hi => h ⟨i, hi⟩]

/-- The block's contribution to the sum of exponentials, at a real maximum `M`. -/
theorem block_sum {n : ℕ} (p : Fin n → Prop) [DecidablePred p] (s : Fin n → ℝ) (M : ℝ) :
    (∑ r, if p r then Ideal.exp ((s r : EReal) - (M : EReal)) else 0)
      = ((Real.exp (-M) * ∑ r, (if p r then Real.exp (s r) else 0) : ℝ) : EReal) := by
  rw [Finset.mul_sum, coe_sum]
  refine Finset.sum_congr rfl fun r _ => ?_
  by_cases h : p r
  · rw [if_pos h, if_pos h, ← EReal.coe_sub, exp_coe, sub_eq_neg_add, Real.exp_add]
  · rw [if_neg h, if_neg h, mul_zero, EReal.coe_zero]

/-- The block's contribution to the weighted sum, at a real maximum `M`. -/
theorem block_acc {n : ℕ} (p : Fin n → Prop) [DecidablePred p] (s x : Fin n → ℝ) (M : ℝ) :
    (∑ r, (if p r then Ideal.exp ((s r : EReal) - (M : EReal)) else 0) * (x r : EReal))
      = ((Real.exp (-M) * ∑ r, (if p r then Real.exp (s r) * x r else 0) : ℝ) : EReal) := by
  rw [Finset.mul_sum, coe_sum]
  refine Finset.sum_congr rfl fun r _ => ?_
  by_cases h : p r
  · rw [if_pos h, if_pos h, ← EReal.coe_sub, exp_coe, ← EReal.coe_mul, sub_eq_neg_add, Real.exp_add, mul_assoc]
  · rw [if_neg h, if_neg h, mul_zero, zero_mul, EReal.coe_zero]

/-- Rescaling a carried sum from the old maximum `M` to the new one `M'`. -/
theorem rescale (M M' q : ℝ) :
    ((Real.exp (-M) * q : ℝ) : EReal) * Ideal.exp ((M : EReal) - (M' : EReal)) = ((Real.exp (-M') * q : ℝ) : EReal) := by
  rw [← EReal.coe_sub, exp_coe, ← EReal.coe_mul]
  congr 1
  rw [mul_right_comm, ← Real.exp_add]
  congr 2
  ring

/-- ONE BLOCK: if the carried state stands for `L` and `A`, then the state after a block stands for `L` and `A` with the
    block's members added. The new maximum is the larger of the old one and the block's; the old sums are rescaled by the
    exponential of the difference (by zero while no row has been met), and each member of the block enters with the exponential of its score less the
    new maximum. -/
theorem stands_block {n : ℕ} (p : Fin n → Prop) [DecidablePred p] (s x : Fin n → ℝ) {L A : ℝ} {m l a mn sc : EReal}
    (h : Stands L A m l a)
    (hmn : mn = max m (Finset.univ.fold max (⊥ : EReal) fun r => if p r then (s r : EReal) else ⊥))
    (hsc : sc = if m = ⊥ then 0 else Ideal.exp (m - mn)) :
    Stands (L + ∑ r, (if p r then Real.exp (s r) else 0)) (A + ∑ r, (if p r then Real.exp (s r) * x r else 0)) mn
      (l * sc + ∑ r, if p r then Ideal.exp ((s r : EReal) - mn) else 0)
      (a * sc + ∑ r, (if p r then Ideal.exp ((s r : EReal) - mn) else 0) * (x r : EReal)) := by
  rcases h with ⟨hm, hl, ha, hL, hA⟩ | ⟨M, hm, hl, ha⟩
  · subst hm hl ha hL hA
    rcases max_members p s with ⟨hp, hb⟩ | ⟨_, M', hb⟩
    · refine Or.inl ?_
      rw [hmn, hb]
      simp [hp]
    · refine Or.inr ⟨M', ?_⟩
      have hmn' : mn = (M' : EReal) := by rw [hmn, hb]; exact max_eq_right bot_le
      rw [hmn', block_sum, block_acc]
      simp
  · subst hm hl ha
    have hs : ∃ M' : ℝ, mn = (M' : EReal) := by
      rcases max_members p s with ⟨_, hb⟩ | ⟨_, M', hb⟩
      · exact ⟨M, by rw [hmn, hb]; exact max_eq_left bot_le⟩
      · exact ⟨max M M', by rw [hmn, hb]; exact (EReal.coe_strictMono.monotone.map_max).symm⟩
    obtain ⟨M', hM'⟩ := hs
    refine Or.inr ⟨M', hM', ?_⟩
    rw [if_neg (EReal.coe_ne_bot M), hM'] at hsc
    rw [hsc, hM', rescale, rescale, block_sum, block_acc, ← EReal.coe_add, ← EReal.coe_add, ← mul_add, ← mul_add]
    exact ⟨rfl, rfl⟩

/-- THE END: the carried weighted sum divided by the carried sum, guarded against a zero sum, is `A / L` (which is zero when
    the segment is empty, `A` and `L` being zero then). -/
theorem stands_end {L A : ℝ} {m l a : EReal} (hL : 0 ≤ L) (h : Stands L A m l a) :
    a * (if 0 < l then Ideal.div 1 l else 0) = ((A / L : ℝ) : EReal) := by
  rcases h with ⟨hm, hl, ha, hL0, hA⟩ | ⟨M, hm, hl, ha⟩
  · subst hm hl ha hL0 hA; simp
  · subst hm hl ha
    rcases hL.eq_or_lt with h0 | hpos
    · subst h0; simp
    · have hq : 0 < Real.exp (-M) * L := mul_pos (Real.exp_pos _) hpos
      rw [if_pos (by exact_mod_cast hq), Ideal.div_coe hq.ne', one_mul, ← EReal.coe_mul]
      congr 1
      rw [mul_one_div, mul_div_mul_left _ _ (Real.exp_pos _).ne']

/-- THE TWO-PASS FORM: a row's weight, the exponential of its score less any real `M`, divided by the sum of the members'
    weights, times the row's entry, summed over the members, is `A / L` too. -/
theorem two_pass {n : ℕ} (p : Fin n → Prop) [DecidablePred p] (s x : Fin n → ℝ) (M : ℝ) (D : EReal)
    (hD : D = ∑ r, if p r then Ideal.exp ((s r : EReal) - (M : EReal)) else 0) :
    (∑ r, if p r then Ideal.div (Ideal.exp ((s r : EReal) - (M : EReal))) D * (x r : EReal) else 0)
      = (((∑ r, if p r then Real.exp (s r) * x r else 0) / ∑ r, (if p r then Real.exp (s r) else 0) : ℝ) : EReal) := by
  rw [block_sum] at hD
  subst hD
  rw [Finset.sum_div, coe_sum]
  refine Finset.sum_congr rfl fun r _ => ?_
  by_cases h : p r
  · have hpos : 0 < ∑ r, (if p r then Real.exp (s r) else 0) := by
      refine Finset.sum_pos' (fun i _ => ?_) ⟨r, Finset.mem_univ r, ?_⟩
      · split
        · exact (Real.exp_pos _).le
        · exact le_rfl
      · rw [if_pos h]; exact Real.exp_pos _
    have hq := mul_pos (Real.exp_pos (-M)) hpos
    rw [if_pos h, if_pos h, Ideal.div_coe hq.ne', ← EReal.coe_sub, exp_coe, ← EReal.coe_mul, ← EReal.coe_mul]
    congr 1
    rw [mul_one_div, sub_eq_neg_add, Real.exp_add, mul_div_mul_left _ _ (Real.exp_pos _).ne', div_mul_eq_mul_div]
  · rw [if_neg h, if_neg h, zero_div, EReal.coe_zero]

/-- THE SCORE: contracting the score vector with the weight matrix first and then with the row, and adding the bias's
    contribution, is the same real number as forming the row's hidden vector first. -/
theorem score_eq {nd na : ℕ} (x : Fin nd → ℝ) (W : Fin na → Fin nd → ℝ) (b v : Fin na → ℝ) :
    (∑ d, (∑ a, v a * W a d) * x d) + ∑ a, v a * b a = ∑ a, ((∑ d, x d * W a d) + b a) * v a := by
  have e : ∀ a, ((∑ d, x d * W a d) + b a) * v a = (∑ d, v a * W a d * x d) + v a * b a := fun a => by
    rw [add_mul, Finset.sum_mul]
    congr 1
    · exact Finset.sum_congr rfl fun d _ => by ring
    · ring
  simp only [e]
  rw [Finset.sum_add_distrib]
  congr 1
  simp only [Finset.sum_mul]
  exact Finset.sum_comm

end Cert.Proof.Online

end
-- ==== Proof.Sums.lean ====
module

public import proofs.«01_k».proof.Proof.Online

@[expose] public section

noncomputable section

namespace Cert.Proof.Sums

open scoped BigOperators

/-!
  The real numbers that both programs compute: the score of a row, and the sums over the rows of a segment, taken over all
  the rows or over the rows of the first blocks only.
-/

/-- The score of row `n`: the row times the transposed weight matrix, plus the bias, against the score vector. -/
def score (X : Fin 32768 → Fin 128 → ℝ) (W : Fin 64 → Fin 128 → ℝ) (b v : Fin 64 → ℝ) (n : Fin 32768) : ℝ :=
  ∑ a, ((∑ d, X n d * W a d) + b a) * v a

/-- Row `n` belongs to segment `k`: its segment number is `k`. -/
abbrev Member (mask : Fin 32768 → BitVec 32) (k : Fin 16) (n : Fin 32768) : Prop := BitVec.ofNat 32 k.val = mask n

/-- What row `n` adds to the sum of exponentials of segment `k`. -/
def term (s : Fin 32768 → ℝ) (mask : Fin 32768 → BitVec 32) (k : Fin 16) (n : Fin 32768) : ℝ :=
  if Member mask k n then Real.exp (s n) else 0

/-- What row `n` adds to the weighted sum, at one column `x`, of segment `k`. -/
def wterm (s x : Fin 32768 → ℝ) (mask : Fin 32768 → BitVec 32) (k : Fin 16) (n : Fin 32768) : ℝ :=
  if Member mask k n then Real.exp (s n) * x n else 0

/-- The sum of `f` over the rows of the first `t` blocks of 2048 rows. -/
def upto (f : Fin 32768 → ℝ) (t : ℕ) : ℝ := ∑ i ∈ Finset.range (t * 2048), if h : i < 32768 then f ⟨i, h⟩ else 0

/-- No block, no sum. -/
theorem upto_zero (f : Fin 32768 → ℝ) : upto f 0 = 0 := by simp [upto]

/-- One block more adds the sum over that block. -/
theorem upto_succ (f : Fin 32768 → ℝ) (t : ℕ) (row : Fin 2048 → Fin 32768) (hrow : ∀ r, (row r).val = t * 2048 + r.val) :
    upto f (t + 1) = upto f t + ∑ r, f (row r) := by
  unfold upto
  rw [Nat.succ_mul, Finset.sum_range_add]
  congr 1
  rw [Finset.sum_range]
  refine Finset.sum_congr rfl fun r _ => ?_
  have h : t * 2048 + r.val < 32768 := hrow r ▸ (row r).isLt
  rw [dif_pos h]
  congr 1
  exact Fin.ext (hrow r).symm

/-- Sixteen blocks are all the rows. -/
theorem upto_all (f : Fin 32768 → ℝ) : upto f 16 = ∑ n, f n := by
  unfold upto
  rw [show 16 * 2048 = 32768 from rfl, Finset.sum_range]
  exact Finset.sum_congr rfl fun n _ => dif_pos n.isLt

/-- The sum of exponentials of a segment is not negative. -/
theorem sum_term_nonneg (s : Fin 32768 → ℝ) (mask : Fin 32768 → BitVec 32) (k : Fin 16) : 0 ≤ ∑ n, term s mask k n :=
  Finset.sum_nonneg fun n _ => by
    unfold term
    split
    · exact (Real.exp_pos _).le
    · exact le_rfl

end Cert.Proof.Sums

end
-- ==== Proof.OneBlock.lean ====
module

public import proofs.«01_k».proof.Proof.Payload
public import proofs.«01_k».proof.Proof.Step
public import proofs.«01_k».proof.Proof.Sums

@[expose] public section

noncomputable section

namespace Cert.Proof.OneBlock

open Idealize.ShloMosaic Cert.KernelIdeal Cert.KernelIdeal.Gen
open Cert.Proof.Online Cert.Proof.Payload Cert.Proof.Step Cert.Proof.Sums Cert.Proof.Words
open scoped BigOperators

/-!
  What one block computes, over the extended reals: if the carried state of a segment stands for the sums over some rows,
  the state that the block leaves stands for the same sums with the rows of the block added.
-/

variable {X : Fin 32768 → Fin 128 → ℝ} {W : Fin 64 → Fin 128 → ℝ} {b v : Fin 64 → ℝ} {mask : Fin 32768 → BitVec 32}
  {row : Fin 2048 → Fin 32768}
  {x0 : Vec Ideal S1x1x2048 .i32} {x1 : Vec Ideal S2048x128 .f32} {x2 : Vec Ideal S64x128 .f32} {x3 x4 : Vec Ideal S1x64 .f32}

/-- The block's scores are the real scores of its rows. -/
theorem score_block (h1 : ∀ r d, x1 (ix2 r d) = ((X (row r) d : ℝ) : EReal)) (h2 : ∀ a d, x2 (ix2 a d) = ((W a d : ℝ) : EReal))
    (h3 : ∀ a, x3 (ix2 0 a) = ((b a : ℝ) : EReal)) (h4 : ∀ a, x4 (ix2 0 a) = ((v a : ℝ) : EReal)) (r : Fin 2048) :
    k0_pay10 (F := Ideal) x1 x4 x2 x3 (ix2 0 r) = ((score X W b v (row r) : ℝ) : EReal) := by
  rw [score_apply]
  simp only [h1, h2, h3, h4]
  unfold score
  rw [← score_eq]
  simp only [EReal.coe_add, coe_sum, EReal.coe_mul]

/-- ONE BLOCK of the kernel: the three stored arrays, at segment `k` and column `d`, stand for the sums with the block's rows
    added. -/
theorem stands_next (h0 : ∀ r, x0 (ix3 0 0 r) = mask (row r))
    (h1 : ∀ r d, x1 (ix2 r d) = ((X (row r) d : ℝ) : EReal)) (h2 : ∀ a d, x2 (ix2 a d) = ((W a d : ℝ) : EReal))
    (h3 : ∀ a, x3 (ix2 0 a) = ((b a : ℝ) : EReal)) (h4 : ∀ a, x4 (ix2 0 a) = ((v a : ℝ) : EReal))
    (m l : Vec Ideal S16x1 .f32) (a : Vec Ideal S16x128 .f32) (k : Fin 16) (d : Fin 128) (L A : ℝ)
    (h : Stands L A (m (ix2 k 0)) (l (ix2 k 0)) (a (ix2 k d))) :
    Stands (L + ∑ r, term (score X W b v) mask k (row r)) (A + ∑ r, wterm (score X W b v) (fun n => X n d) mask k (row r))
      (nextMax (F := Ideal) x0 x1 x2 x3 x4 m (ix2 k 0)) (nextSum (F := Ideal) x0 x1 x2 x3 x4 m l (ix2 k 0))
      (nextAcc (F := Ideal) x0 x1 x2 x3 x4 m a (ix2 k d)) := by
  have hs := score_block h1 h2 h3 h4
  have hm : nextMax (F := Ideal) x0 x1 x2 x3 x4 m (ix2 k 0) = max (m (ix2 k 0))
      (Finset.univ.fold max (⊥ : EReal) fun r => if Member mask k (row r) then ((score X W b v (row r) : ℝ) : EReal) else ⊥) := by
    unfold nextMax
    rw [keep_eq, newMax_apply]
    simp only [member_apply, select_eq, h0, hs, Member]
  have key := stands_block (fun r => Member mask k (row r)) (fun r => score X W b v (row r)) (fun r => X (row r) d) h hm rfl
  unfold nextSum nextAcc
  rw [newSum_apply, newAcc_apply]
  simp only [weight_apply, scale_apply, isFirst_apply, drop_apply, member_apply, select_eq, select_decide, h0, h1, hs]
  unfold nextMax at key ⊢
  rw [keep_eq] at key ⊢
  exact key

/-- What the last point writes, from a state that stands for the sums `L` and `A`: their quotient. -/
theorem out_next (l : Vec Ideal S16x1 .f32) (a : Vec Ideal S16x128 .f32) (k : Fin 16) (d : Fin 128) {L A : ℝ} {m : EReal} (hL : 0 ≤ L)
    (h : Stands L A m (l (ix2 k 0)) (a (ix2 k d))) : k0_pay6 (F := Ideal) l a (ix2 k d) = ((A / L : ℝ) : EReal) := by
  rw [out_apply, select_decide]
  exact stands_end hL h

end Cert.Proof.OneBlock

end
-- ==== Proof.Blocks.lean ====
module

public import proofs.«01_k».proof.Proof.Gen.KernelIdeal.Frame
public import Idealize.ShloMosaic.Lib.Pipeline.Value
public import Idealize.ShloMosaic.Lib.Pointwise
public import Idealize.ShloMosaic.Lib.Claim
public import Idealize.ShloMosaic.Lib.StableHlo.Run

@[expose] public section

set_option maxRecDepth 16384

noncomputable section

namespace Cert.Proof.Blocks

open Idealize.ShloMosaic Idealize.ShloMosaic.TcCoe Idealize.ShloMosaic.Tactic Idealize.ShloMosaic.StableHlo Idealize.SL.Sem
open Cert.KernelIdeal Cert.KernelIdeal.Gen

variable {F : FTy → Type} [FloatOps F]
variable (m : (ℓ : Loc nD τ sig) → Buf (Elt F) ℓ)

/-!
  The blocks that a grid point reads, in terms of the kernel's arguments.
-/

/-- The segment numbers as the sweep finds them: the argument, laid out as sixteen blocks of 2048. -/
theorem V_mask (c : Dev nD) : (V m c main_call0_v0 : Vec F S16x1x2048 .i32)
    = shapeCast S16x1x2048 (m ((c : Thread nD τ).loc main_arg1) : Vec F S32768 .i32) shapeCasts_S32768_S16x1x2048 := by
  entry_read <;> rfl

/-- The bias as the sweep finds it: the argument, laid out as one row. -/
theorem V_b (c : Dev nD) : (V m c main_call0_v1 : Vec F S1x64 .f32)
    = shapeCast S1x64 (m ((c : Thread nD τ).loc main_arg3) : Vec F S64 .f32) shapeCasts_S64_S1x64 := by
  entry_read <;> rfl

/-- The score vector as the sweep finds it: the argument, laid out as one row. -/
theorem V_v (c : Dev nD) : (V m c main_call0_v2 : Vec F S1x64 .f32)
    = shapeCast S1x64 (m ((c : Thread nD τ).loc main_arg4) : Vec F S64 .f32) shapeCasts_S64_S1x64 := by
  entry_read <;> rfl

/-- Block `t` of the segment numbers, at position `r`, is entry `2048 t + r` of the argument. -/
theorem mask_cast (x : Vec F S32768 .i32) (t : Fin 16) (r : Fin 2048) :
    shapeCast S16x1x2048 x shapeCasts_S32768_S16x1x2048 (ix3 t 0 r) = x (ix1 ⟨t.val * 2048 + r.val, by omega⟩) := by
  pointwise []

/-- The one row of a vector laid out as a row is the vector. -/
theorem b_cast (x : Vec F S64 .f32) (a : Fin 64) :
    shapeCast S1x64 x shapeCasts_S64_S1x64 (ix2 0 a) = x (ix1 a) := by
  pointwise []

/-- There are sixteen points. -/
theorem point_lt (t : Fin cfg0.N) : t.val < 16 :=
  lt_of_lt_of_eq t.isLt N_0

/-- The array position of row `r` of the block at point `t`. -/
def row (t : Fin cfg0.N) (r : Fin 2048) : Fin 32768 := ⟨t.val * 2048 + r.val, by have := point_lt t; omega⟩

/-- Point `t` reads block `t` of the segment numbers. -/
theorem idx_mask : ∀ t : Fin cfg0.N, win0_0.index t 0 = t.val ∧ win0_0.index t 1 = 0 ∧ win0_0.index t 2 = 0 := by decide

/-- Point `t` reads block `t` of the rows. -/
theorem idx_rows : ∀ t : Fin cfg0.N, win0_1.index t 0 = t.val ∧ win0_1.index t 1 = 0 := by decide

/-- Every point reads the whole weight matrix. -/
theorem idx_W : ∀ t : Fin cfg0.N, win0_2.index t 0 = 0 ∧ win0_2.index t 1 = 0 := by decide

/-- Every point reads the whole bias. -/
theorem idx_b : ∀ t : Fin cfg0.N, win0_3.index t 0 = 0 ∧ win0_3.index t 1 = 0 := by decide

/-- Every point reads the whole score vector. -/
theorem idx_v : ∀ t : Fin cfg0.N, win0_4.index t 0 = 0 ∧ win0_4.index t 1 = 0 := by decide

/-- The block of segment numbers at point `t`, at position `r`: the segment number of row `2048 t + r`. -/
theorem mask_block (c : Dev nD) (t : Fin cfg0.N) (r : Fin 2048) :
    (iblk m c 0 t : Vec F S1x1x2048 .i32) (ix3 0 0 r) = (m ((c : Thread nD τ).loc main_arg1) : Vec F S32768 .i32) (ix1 (row t r)) := by
  obtain ⟨h0, h1, h2⟩ := idx_mask t
  refine Eq.trans ?_ (mask_cast (F := F) _ ⟨t.val, point_lt t⟩ r)
  rw [← V_mask m c]
  unfold iblk
  rw [View.read_apply]
  show V m c main_call0_v0 _ = V m c main_call0_v0 _
  congr 1
  funext a
  apply Fin.ext
  match a with
  | ⟨0, _⟩ => show win0_0.index t 0 * 1 + 1 * 0 = t.val; rw [h0]; omega
  | ⟨1, _⟩ => show win0_0.index t 1 * 1 + 1 * 0 = 0; rw [h1]
  | ⟨2, _⟩ => show win0_0.index t 2 * 2048 + 1 * r.val = r.val; rw [h2]; omega

/-- The block of rows at point `t`, at row `r` and column `d`: row `2048 t + r` of the argument. -/
theorem rows_block (c : Dev nD) (t : Fin cfg0.N) (r : Fin 2048) (d : Fin 128) :
    (iblk m c 1 t : Vec F S2048x128 .f32) (ix2 r d) = (m ((c : Thread nD τ).loc main_arg0) : Vec F S32768x128 .f32) (ix2 (row t r) d) := by
  obtain ⟨h0, h1⟩ := idx_rows t
  rw [← V_main_arg0 m c]
  unfold iblk
  rw [View.read_apply]
  show V m c main_arg0 _ = V m c main_arg0 _
  congr 1
  funext a
  apply Fin.ext
  match a with
  | ⟨0, _⟩ => show win0_1.index t 0 * 2048 + 1 * r.val = t.val * 2048 + r.val; rw [h0]; omega
  | ⟨1, _⟩ => show win0_1.index t 1 * 128 + 1 * d.val = d.val; rw [h1]; omega

/-- The block of the weight matrix at any point is the argument. -/
theorem W_block (c : Dev nD) (t : Fin cfg0.N) (a : Fin 64) (d : Fin 128) :
    (iblk m c 2 t : Vec F S64x128 .f32) (ix2 a d) = (m ((c : Thread nD τ).loc main_arg2) : Vec F S64x128 .f32) (ix2 a d) := by
  obtain ⟨h0, h1⟩ := idx_W t
  rw [← V_main_arg2 m c]
  unfold iblk
  rw [View.read_apply]
  show V m c main_arg2 _ = V m c main_arg2 _
  congr 1
  funext e
  apply Fin.ext
  match e with
  | ⟨0, _⟩ => show win0_2.index t 0 * 64 + 1 * a.val = a.val; rw [h0]; omega
  | ⟨1, _⟩ => show win0_2.index t 1 * 128 + 1 * d.val = d.val; rw [h1]; omega

/-- The block of the bias at any point is the argument. -/
theorem b_block (c : Dev nD) (t : Fin cfg0.N) (a : Fin 64) :
    (iblk m c 3 t : Vec F S1x64 .f32) (ix2 0 a) = (m ((c : Thread nD τ).loc main_arg3) : Vec F S64 .f32) (ix1 a) := by
  obtain ⟨h0, h1⟩ := idx_b t
  refine Eq.trans ?_ (b_cast (F := F) _ a)
  rw [← V_b m c]
  unfold iblk
  rw [View.read_apply]
  show V m c main_call0_v1 _ = V m c main_call0_v1 _
  congr 1
  funext e
  apply Fin.ext
  match e with
  | ⟨0, _⟩ => show win0_3.index t 0 * 1 + 1 * 0 = 0; rw [h0]
  | ⟨1, _⟩ => show win0_3.index t 1 * 64 + 1 * a.val = a.val; rw [h1]; omega

/-- The block of the score vector at any point is the argument. -/
theorem v_block (c : Dev nD) (t : Fin cfg0.N) (a : Fin 64) :
    (iblk m c 4 t : Vec F S1x64 .f32) (ix2 0 a) = (m ((c : Thread nD τ).loc main_arg4) : Vec F S64 .f32) (ix1 a) := by
  obtain ⟨h0, h1⟩ := idx_v t
  refine Eq.trans ?_ (b_cast (F := F) _ a)
  rw [← V_v m c]
  unfold iblk
  rw [View.read_apply]
  show V m c main_call0_v2 _ = V m c main_call0_v2 _
  congr 1
  funext e
  apply Fin.ext
  match e with
  | ⟨0, _⟩ => show win0_4.index t 0 * 1 + 1 * 0 = 0; rw [h0]
  | ⟨1, _⟩ => show win0_4.index t 1 * 64 + 1 * a.val = a.val; rw [h1]; omega

end Cert.Proof.Blocks

end
-- ==== Proof.Fold.lean ====
module

public import proofs.«01_k».proof.Proof.OneBlock
public import proofs.«01_k».proof.Proof.Blocks
public import proofs.«01_k».proof.Proof.Gen.KernelIdeal.Value

@[expose] public section

set_option maxRecDepth 16384

noncomputable section

namespace Cert.Proof.Fold

open Idealize.ShloMosaic Idealize.ShloMosaic.TcCoe Idealize.SL.Sem
open Cert.KernelIdeal Cert.KernelIdeal.Gen
open Cert.Proof.Online Cert.Proof.Payload Cert.Proof.Step Cert.Proof.Sums Cert.Proof.OneBlock Cert.Proof.Blocks
open scoped BigOperators

/-!
  What the kernel's output array holds: the invariant of the sweep over the sixteen blocks, and the value at its end.
-/

variable (m : (ℓ : Loc nD τ sig) → Buf (Elt Ideal) ℓ) (c : Dev nD)

/-- The float arguments on device `c` are the reals `X`, `W`, `b`, `v`. -/
structure RealArgs (X : Fin 32768 → Fin 128 → ℝ) (W : Fin 64 → Fin 128 → ℝ) (b v : Fin 64 → ℝ) : Prop where
  x : ∀ n d, (m ((c : Thread nD τ).loc main_arg0) : Vec Ideal S32768x128 .f32) (ix2 n d) = ((X n d : ℝ) : EReal)
  W : ∀ a d, (m ((c : Thread nD τ).loc main_arg2) : Vec Ideal S64x128 .f32) (ix2 a d) = ((W a d : ℝ) : EReal)
  b : ∀ a, (m ((c : Thread nD τ).loc main_arg3) : Vec Ideal S64 .f32) (ix1 a) = ((b a : ℝ) : EReal)
  v : ∀ a, (m ((c : Thread nD τ).loc main_arg4) : Vec Ideal S64 .f32) (ix1 a) = ((v a : ℝ) : EReal)

/-- The segment number of row `n` on device `c`. -/
def mask (n : Fin 32768) : BitVec 32 := (m ((c : Thread nD τ).loc main_arg1) : Vec Ideal S32768 .i32) (ix1 n)

variable {m c} {X : Fin 32768 → Fin 128 → ℝ} {W : Fin 64 → Fin 128 → ℝ} {b v : Fin 64 → ℝ}

/-- One point of the sweep, whichever it is: what it stores stands for the sums over one block more. -/
theorem stands_point (hR : RealArgs m c X W b v) (t : Fin cfg0.N) (k : Fin 16) (d : Fin 128)
    (m' l : Vec Ideal S16x1 .f32) (a : Vec Ideal S16x128 .f32)
    (h : Stands (upto (term (score X W b v) (mask m c) k) t.val) (upto (wterm (score X W b v) (fun n => X n d) (mask m c) k) t.val)
      (m' (ix2 k 0)) (l (ix2 k 0)) (a (ix2 k d))) :
    Stands (upto (term (score X W b v) (mask m c) k) (t.val + 1))
      (upto (wterm (score X W b v) (fun n => X n d) (mask m c) k) (t.val + 1))
      (nextMax (F := Ideal) (iblk m c 0 t) (iblk m c 1 t) (iblk m c 2 t) (iblk m c 3 t) (iblk m c 4 t) m' (ix2 k 0))
      (nextSum (F := Ideal) (iblk m c 0 t) (iblk m c 1 t) (iblk m c 2 t) (iblk m c 3 t) (iblk m c 4 t) m' l (ix2 k 0))
      (nextAcc (F := Ideal) (iblk m c 0 t) (iblk m c 1 t) (iblk m c 2 t) (iblk m c 3 t) (iblk m c 4 t) m' a (ix2 k d)) := by
  rw [upto_succ _ t.val (row t) fun _ => rfl, upto_succ _ t.val (row t) fun _ => rfl]
  exact stands_next (mask := mask m c) (row := row t) (X := X) (W := W) (b := b) (v := v)
    (fun r => mask_block m c t r) (fun r d => (rows_block m c t r d).trans (hR.x _ _)) (fun a d => (W_block m c t a d).trans (hR.W _ _))
    (fun a => (b_block m c t a).trans (hR.b _)) (fun a => (v_block m c t a).trans (hR.v _)) m' l a k d _ _ h

/-- THE INVARIANT: after the point `n` the carried state of segment `k` at column `d` stands for the sums over the first
    `n + 1` blocks. -/
theorem stands_sweep (hR : RealArgs m c X W b v) (k : Fin 16) (d : Fin 128) : ∀ (n : ℕ) (hn : n < cfg0.N),
    Stands (upto (term (score X W b v) (mask m c) k) (n + 1)) (upto (wterm (score X W b v) (fun n => X n d) (mask m c) k) (n + 1))
      ((outsAt0 m c n hn).2.1 (ix2 k 0)) ((outsAt0 m c n hn).2.2.1 (ix2 k 0)) ((outsAt0 m c n hn).2.2.2 (ix2 k d)) := by
  intro n
  induction n with
  | zero =>
    intro hn
    rw [outsAt0_A m c ⟨0, hn⟩ (by rfl) (show ¬ 0 % 16 = 15 by decide)]
    dsimp only
    rw [max_A, sum_A, acc_A]
    refine stands_point hR ⟨0, hn⟩ k d (k0_pay7 (F := Ideal)) (k0_pay8 (F := Ideal)) (k0_pay9 (F := Ideal)) ?_
    rw [upto_zero, upto_zero, max0_apply, sum0_apply, acc0_apply]
    exact stands_start
  | succ n ih =>
    intro hn
    have hN : n + 1 < 16 := lt_of_lt_of_eq hn N_0
    have h0 : ¬ (n + 1) % 16 = 0 := by omega
    have hp := ih (Nat.lt_of_succ_lt hn)
    by_cases h1 : (n + 1) % 16 = 15
    · rw [outsAt0_C m c ⟨n + 1, hn⟩ h0 h1]
      dsimp only
      rw [max_C, sum_C, acc_C]
      exact stands_point hR ⟨n + 1, hn⟩ k d _ _ _ hp
    · rw [outsAt0_B m c ⟨n + 1, hn⟩ h0 h1]
      dsimp only
      rw [max_B, sum_B, acc_B]
      exact stands_point hR ⟨n + 1, hn⟩ k d _ _ _ hp

/-- The output block that the last point writes is the quotient of the two sums that its carried state holds. -/
theorem out_last (h15 : 15 < cfg0.N) :
    (outsAt0 m c 15 h15).1 = k0_pay6 (F := Ideal) (outsAt0 m c 15 h15).2.2.1 (outsAt0 m c 15 h15).2.2.2 := by
  rw [outsAt0_C m c ⟨15, h15⟩ (show ¬ 15 % 16 = 0 by decide) (by rfl)]
  dsimp only
  rw [out_C, sum_C, acc_C]

/-- WHAT THE KERNEL COMPUTES: at segment `k` and column `d`, the weighted sum of the segment's rows over the sum of their
    exponentials, over all the rows. -/
theorem kernel_value (hR : RealArgs m c X W b v) (k : Fin 16) (d : Fin 128) :
    (Value.G5 m c : Vec Ideal S16x128 .f32) (ix2 k d)
      = (((∑ n, wterm (score X W b v) (fun n => X n d) (mask m c) k n) / ∑ n, term (score X W b v) (mask m c) k n : ℝ) : EReal) := by
  have h15 : 15 < cfg0.N := lt_of_lt_of_eq (by decide) N_0.symm
  have e : Value.G5 m c = (outsAt0 m c 15 h15).1 := by
    rw [Value.G5_last, Value.outsAt0_sweep]
  rw [e, out_last h15, ← upto_all, ← upto_all]
  refine out_next _ _ k d ?_ (stands_sweep hR k d 15 h15)
  rw [upto_all]
  exact sum_term_nonneg _ _ _

end Cert.Proof.Fold

end
-- ==== Proof.RefOps.lean ====
module

public import proofs.«01_k».proof.Proof.Gen.ReferenceIdeal.Run
public import proofs.«01_k».proof.Proof.Sums
public import Idealize.ShloMosaic.Lib.Pointwise
public import Idealize.ShloMosaic.Lib.Routing.OpsPair

@[expose] public section

noncomputable section

namespace Cert.Proof.RefOps

open Idealize.ShloMosaic Cert.ReferenceIdeal Cert.ReferenceIdeal.Gen
open Cert.Proof.Sums
open scoped BigOperators

/-!
  The two scatters and the gather of the reference, read at an index.

  A scatter adds, at segment `k`, the updates of the rows whose segment number is `k`; a row whose segment number is not one
  of the sixteen adds nothing. The gather reads, for a row, the entry of its segment.
-/

/-- The word of a segment, read as a signed number, is the segment. -/
theorem toInt_seg : ∀ k : Fin 16, (BitVec.ofNat 32 k.val).toInt = (k.val : Int) := by decide

/-- A segment number read as a signed number is `k` exactly when it is the word of `k`. -/
theorem toInt_eq_iff (u : BitVec 32) (k : Fin 16) : u.toInt = (k.val : Int) ↔ BitVec.ofNat 32 k.val = u :=
  ⟨fun h => BitVec.eq_of_toInt_eq ((toInt_seg k).trans h.symm), fun h => h ▸ toInt_seg k⟩

/-- Row `n`'s update of the sum of exponentials lands at segment `k` exactly when the row's segment number is `k`. -/
theorem lands1 (idx : IVec S32768x1 32) (n : Fin 32768) (k : Fin 16) :
    scatter_S16_S32768x1_S32768_n_0_0_1.resultIdx? (ix1 n) idx = some (ix1 k) ↔ BitVec.ofNat 32 k.val = idx (ix2 n 0) := by
  have hs : scatter_S16_S32768x1_S32768_n_0_0_1.start (ix1 n) idx 0 = (idx (ix2 n 0)).toInt := by
    unfold ScatterDims.start
    rw [dif_pos (by decide)]
    congr 2
    funext a
    apply Fin.ext
    match a with
    | ⟨0, _⟩ => rfl
    | ⟨1, _⟩ => rfl
  have hw : scatter_S16_S32768x1_S32768_n_0_0_1.window (ix1 n) 0 = 0 := rfl
  rw [Routing.resultIdx?_eq_some, ← toInt_eq_iff]
  constructor
  · intro h
    have := h 0
    rw [hs, hw] at this
    simpa using this
  · intro h a
    match a with
    | ⟨0, _⟩ =>
      show scatter_S16_S32768x1_S32768_n_0_0_1.start (ix1 n) idx 0 + (scatter_S16_S32768x1_S32768_n_0_0_1.window (ix1 n) 0 : Int) = (k.val : Int)
      rw [hs, hw, h]; simp

/-- Entry `(n, e)` of the updates of the output lands at segment `k` and column `d` exactly when row `n`'s segment number is `k` and
    `e` is `d`. -/
theorem lands2 (idx : IVec S32768x1 32) (n : Fin 32768) (e : Fin 128) (k : Fin 16) (d : Fin 128) :
    scatter_S16x128_S32768x1_S32768x128_1_0_0_1.resultIdx? (ix2 n e) idx = some (ix2 k d) ↔ BitVec.ofNat 32 k.val = idx (ix2 n 0) ∧ e = d := by
  have hs : scatter_S16x128_S32768x1_S32768x128_1_0_0_1.start (ix2 n e) idx 0 = (idx (ix2 n 0)).toInt := by
    unfold ScatterDims.start
    rw [dif_pos (by decide)]
    congr 2
    funext a
    apply Fin.ext
    match a with
    | ⟨0, _⟩ => rfl
    | ⟨1, _⟩ => rfl
  have hs1 : scatter_S16x128_S32768x1_S32768x128_1_0_0_1.start (ix2 n e) idx 1 = 0 := rfl
  have hw : scatter_S16x128_S32768x1_S32768x128_1_0_0_1.window (ix2 n e) 0 = 0 := rfl
  have hw1 : scatter_S16x128_S32768x1_S32768x128_1_0_0_1.window (ix2 n e) 1 = e.val := rfl
  rw [Routing.resultIdx?_eq_some, ← toInt_eq_iff]
  constructor
  · intro h
    have h0 := h 0
    have h1 := h 1
    rw [hs, hw] at h0
    rw [hs1, hw1] at h1
    exact ⟨by simpa using h0, Fin.ext (by simpa using h1)⟩
  · rintro ⟨h, rfl⟩ a
    match a with
    | ⟨0, _⟩ =>
      show scatter_S16x128_S32768x1_S32768x128_1_0_0_1.start (ix2 n e) idx 0 + (scatter_S16x128_S32768x1_S32768x128_1_0_0_1.window (ix2 n e) 0 : Int) = (k.val : Int)
      rw [hs, hw, h]; simp
    | ⟨1, _⟩ =>
      show scatter_S16x128_S32768x1_S32768x128_1_0_0_1.start (ix2 n e) idx 1 + (scatter_S16x128_S32768x1_S32768x128_1_0_0_1.window (ix2 n e) 1 : Int) = (e.val : Int)
      rw [hs1, hw1]; simp

/-- The scatter into one entry per segment, at segment `k`: what was there, plus the updates of the segment's rows. -/
theorem scatter1_apply (z : Vec Ideal S16 .f32) (idx : IVec S32768x1 32) (u : Vec Ideal S32768 .f32) (k : Fin 16) :
    Host.scatterAdd (F := Ideal) (φ := .f32) scatter_S16_S32768x1_S32768_n_0_0_1 z idx u (ix1 k)
      = z (ix1 k) + ∑ n : Fin 32768, if BitVec.ofNat 32 k.val = idx (ix2 n 0) then u (ix1 n) else 0 := by
  show z (ix1 k) + ∑ j ∈ Finset.univ.filter (fun j => scatter_S16_S32768x1_S32768_n_0_0_1.resultIdx? j idx = some (ix1 k)), u j = _
  rw [Finset.sum_filter, sum_idx1]
  simp only [lands1]

/-- The scatter into one row per segment, at segment `k` and column `d`: what was there, plus the entries in column `d` of the
    updates of the segment's rows. -/
theorem scatter2_apply (z : Vec Ideal S16x128 .f32) (idx : IVec S32768x1 32) (u : Vec Ideal S32768x128 .f32) (k : Fin 16) (d : Fin 128) :
    Host.scatterAdd (F := Ideal) (φ := .f32) scatter_S16x128_S32768x1_S32768x128_1_0_0_1 z idx u (ix2 k d)
      = z (ix2 k d) + ∑ n : Fin 32768, if BitVec.ofNat 32 k.val = idx (ix2 n 0) then u (ix2 n d) else 0 := by
  show z (ix2 k d) + ∑ j ∈ Finset.univ.filter (fun j => scatter_S16x128_S32768x1_S32768x128_1_0_0_1.resultIdx? j idx = some (ix2 k d)), u j = _
  rw [Finset.sum_filter, sum_idx2]
  refine congrArg (z (ix2 k d) + ·) ?_
  refine Finset.sum_congr rfl fun n _ => ?_
  simp only [lands2]
  by_cases h : BitVec.ofNat 32 k.val = idx (ix2 n 0)
  · simp [h]
  · simp [h]

/-- The gather, at a row whose start index is the word of segment `k`: the entry of segment `k`. -/
theorem gather_apply (y : Vec Ideal S16 .f32) (idx : IVec S32768x1 32) (n : Fin 32768) (k : Fin 16)
    (h : BitVec.ofNat 32 k.val = idx (ix2 n 0)) :
    Host.gather gather_S16_S32768x1_S32768_n_0_n_n_0_1_1 y idx (ix1 n) = y (ix1 k) := by
  have hs : gather_S16_S32768x1_S32768_n_0_n_n_0_1_1.start (ix1 n) idx 0 = min (idx (ix2 n 0)).toInt.toNat (16 - 1) := by
    unfold GatherDims.start
    rw [dif_pos (by decide)]
    have e : ∀ p, gather_S16_S32768x1_S32768_n_0_n_n_0_1_1.siIdx (ix1 n) p = ix2 n 0 := fun p => by
      funext a
      apply Fin.ext
      match a with
      | ⟨0, _⟩ => rfl
      | ⟨1, _⟩ => show p.val = 0; exact Nat.lt_one_iff.1 p.isLt
    rw [e]
    rfl
  unfold Host.gather
  congr 1
  funext a
  match a with
  | ⟨0, _⟩ =>
    apply Fin.ext
    show gather_S16_S32768x1_S32768_n_0_n_n_0_1_1.start (ix1 n) idx 0 + 0 + 0 = k.val
    rw [hs, ← h, toInt_seg]
    have := k.isLt
    omega

end Cert.Proof.RefOps

end
-- ==== Proof.RefValue.lean ====
module

public import proofs.«01_k».proof.Proof.RefOps
public import proofs.«01_k».proof.Proof.Words

@[expose] public section

set_option maxRecDepth 8192

noncomputable section

namespace Cert.Proof.RefValue

open Idealize.ShloMosaic Idealize.ShloMosaic.TcCoe Idealize.SL.Sem Cert.ReferenceIdeal Cert.ReferenceIdeal.Gen
open Cert.Proof.Sums Cert.Proof.RefOps Cert.Proof.Online Cert.Proof.Words
open scoped BigOperators

/-!
  What the reference computes, stage by stage: the scores, the maximum of each segment, the exponentials, their sum in each segment,
  and the result. Each stage is a function of the arguments and of the stages before it, read at an index.
-/

variable {F : FTy → Type} [FloatOps F]

/-- The scores of the rows. -/
def scores (x : FVec F S32768x128 .f32) (W : FVec F S64x128 .f32) (b v : FVec F S64 .f32) : FVec F S32768 .f32 :=
  Host.dotGeneral dot_S32768x64_S64_S32768_1_0_0_n_n_n none (addf (Host.dotGeneral dot_S32768x128_S128x64_S32768x64_1_0_0_1_n_n none x (transpose S128x64 [1, 0] W transposes_S64x128_S128x64_1_0)) (broadcastInDim S32768x64 ![0, 1] bcast_S1x64_S32768x64_0_1 (broadcastInDim S1x64 ![1] bcast_S64_S1x64_1 b))) v

/-- The segment numbers as start indices of a gather: a negative number counts from the end. -/
def starts (mk : IVec S32768 32) : IVec S32768x1 32 :=
  broadcastInDim S32768x1 ![0] bcast_S32768_S32768x1_0 (select (cmpi .slt mk (broadcastInDim S32768 ![] bcast_S_S32768 (constantI S_ 32 0#32))) (addi mk (broadcastInDim S32768 ![] bcast_S_S32768 (constantI S_ 32 16#32))) mk)

/-- The segment numbers as a column. -/
def column (mk : IVec S32768 32) : IVec S32768x1 32 := broadcastInDim S32768x1 ![0] bcast_S32768_S32768x1_0 mk

/-- The largest score of each segment. -/
def segMax (mk : IVec S32768 32) (s : FVec F S32768 .f32) : FVec F S16 .f32 :=
  Host.reduce FloatOps.maximumf (select (cmpi .eq (broadcastInDim S16x32768 ![0, 1] bcast_S1x32768_S16x32768_0_1 (broadcastInDim S1x32768 ![1] bcast_S32768_S1x32768_1 mk)) (broadcastInDim S16x32768 ![0, 1] bcast_S16x1_S16x32768_0_1 (broadcastInDim S16x1 ![0] bcast_S16_S16x1_0 (iotaInDim S16 32 0)))) (broadcastInDim S16x32768 ![0, 1] bcast_S1x32768_S16x32768_0_1 (broadcastInDim S1x32768 ![1] bcast_S32768_S1x32768_1 s)) (broadcastInDim S16x32768 ![] bcast_S_S16x32768 (id (constant S_ .f32 0xFF800000#32)))) (constant S_ .f32 0xFF800000#32) reducesTo_S16x32768_S16_d1 h_S_

/-- The exponential of each score less the maximum of its segment. -/
def exps (mk : IVec S32768 32) (s : FVec F S32768 .f32) : FVec F S32768 .f32 :=
  Host.exp (subf s (Host.gather gather_S16_S32768x1_S32768_n_0_n_n_0_1_1 (segMax mk s) (starts mk)))

/-- The sum of the exponentials of each segment. -/
def denom (mk : IVec S32768 32) (s : FVec F S32768 .f32) : FVec F S16 .f32 :=
  Host.scatterAdd scatter_S16_S32768x1_S32768_n_0_0_1 (broadcastInDim S16 ![] bcast_S_S16 (constant S_ .f32 0x00000000#32)) (column mk) (exps mk s)

/-- The weight of each row: its exponential over the sum of its segment. -/
def weights (mk : IVec S32768 32) (s : FVec F S32768 .f32) : FVec F S32768 .f32 :=
  Host.divf (exps mk s) (Host.gather gather_S16_S32768x1_S32768_n_0_n_n_0_1_1 (denom mk s) (starts mk))

/-- The rows, each times its weight. -/
def weighted (mk : IVec S32768 32) (s : FVec F S32768 .f32) (x : FVec F S32768x128 .f32) : FVec F S32768x128 .f32 :=
  mulf (broadcastInDim S32768x128 ![0, 1] bcast_S32768x1_S32768x128_0_1 (broadcastInDim S32768x1 ![0] bcast_S32768_S32768x1_0 (weights mk s))) x

/-- The result: in each segment, the sum of its rows times their weights. -/
def result (x : FVec F S32768x128 .f32) (mk : IVec S32768 32) (W : FVec F S64x128 .f32) (b v : FVec F S64 .f32) : FVec F S16x128 .f32 :=
  Host.scatterAdd scatter_S16x128_S32768x1_S32768x128_1_0_0_1 (broadcastInDim S16x128 ![] bcast_S_S16x128 (constant S_ .f32 0x00000000#32)) (column mk) (weighted mk (scores x W b v) x)

/-- The value of the reference's run is these stages, composed. -/
theorem res_eq (m : (ℓ : Loc nD τ sig) → Buf (Elt F) ℓ) (c : Dev nD) :
    Value.res_out0 m c = result (F := F) (m ((c : Thread nD τ).loc main_arg0)) (m ((c : Thread nD τ).loc main_arg1))
      (m ((c : Thread nD τ).loc main_arg2)) (m ((c : Thread nD τ).loc main_arg3)) (m ((c : Thread nD τ).loc main_arg4)) := by
  show Value.res_main_v40 m c = _
  unfold Value.res_main_v40 result weighted weights denom exps segMax column starts scores
  rfl

/-- The score of row `n`. -/
theorem scores_apply (x : FVec Ideal S32768x128 .f32) (W : FVec Ideal S64x128 .f32) (b v : FVec Ideal S64 .f32) (n : Fin 32768) :
    scores x W b v (ix1 n) = ∑ a : Fin 64, ((∑ d : Fin 128, x (ix2 n d) * W (ix2 a d)) + b (ix1 a)) * v (ix1 a) := by
  pointwise [scores]

/-- A quotient of two arrays, at an index. -/
theorem divf_apply {t : Shape} (a b : FVec Ideal t .f32) (j : t.Idx) : Host.divf a b j = Ideal.div (a j) (b j) := rfl

/-- The column of segment numbers, at row `n`. -/
theorem column_apply (mk : IVec S32768 32) (n : Fin 32768) : column mk (ix2 n 0) = mk (ix1 n) := by
  pointwise [column]

/-- The start index of row `n`. -/
theorem starts_apply (mk : IVec S32768 32) (n : Fin 32768) :
    starts mk (ix2 n 0) = Scalar.select (IntOp.cmpi .slt (mk (ix1 n)) 0#32) (IntOp.addi (mk (ix1 n)) 16#32) (mk (ix1 n)) := by
  pointwise [starts]

/-- The maximum of segment `k`: the fold of `max` over the scores of its rows. -/
theorem segMax_apply (mk : IVec S32768 32) (s : FVec Ideal S32768 .f32) (k : Fin 16) :
    segMax mk s (ix1 k) = Finset.univ.fold max ⊥ fun n : Fin 32768 =>
      Scalar.select (IntOp.cmpi .eq (mk (ix1 n)) (BitVec.ofNat 32 k.val)) (s (ix1 n)) ⊥ := by
  have e : (id (constant (F := Ideal) S_ .f32 0xFF800000#32) : FVec Ideal S_ .f32) ix0 = ⊥ := ofBits_negInf
  pointwise [segMax]
  rw [ofBits_negInf, e]

/-- Row `n` times its weight, at column `d`. -/
theorem weighted_apply (mk : IVec S32768 32) (s : FVec Ideal S32768 .f32) (x : FVec Ideal S32768x128 .f32) (n : Fin 32768) (d : Fin 128) :
    weighted mk s x (ix2 n d) = weights mk s (ix1 n) * x (ix2 n d) := by
  pointwise [weighted]

/-- A row of segment `k` reads its segment's entry: its start index is the word of `k`. -/
theorem starts_member (mk : IVec S32768 32) (n : Fin 32768) (k : Fin 16) (h : BitVec.ofNat 32 k.val = mk (ix1 n)) :
    BitVec.ofNat 32 k.val = starts mk (ix2 n 0) := by
  have e : ∀ k : Fin 16, BitVec.ofNat 32 k.val
      = Scalar.select (IntOp.cmpi .slt (BitVec.ofNat 32 k.val) 0#32) (IntOp.addi (BitVec.ofNat 32 k.val) 16#32) (BitVec.ofNat 32 k.val) := by decide
  rw [starts_apply, ← h]
  exact e k

section Real

variable {mk : IVec S32768 32} {s : FVec Ideal S32768 .f32} {S : Fin 32768 → ℝ} (hs : ∀ n, s (ix1 n) = ((S n : ℝ) : EReal))

include hs

/-- With real scores, the maximum of segment `k` is the maximum over its rows, `⊥` if it has none. -/
theorem segMax_real (k : Fin 16) : segMax mk s (ix1 k)
    = Finset.univ.fold max (⊥ : EReal) fun n => if Member (fun n => mk (ix1 n)) k n then ((S n : ℝ) : EReal) else ⊥ := by
  rw [segMax_apply]
  simp only [select_eq, hs]
  congr 1
  funext n
  exact if_congr eq_comm rfl rfl

/-- The exponential of a row of a segment whose maximum is the real number `M`. -/
theorem exps_real (k : Fin 16) (M : ℝ) (hM : segMax mk s (ix1 k) = (M : EReal)) (n : Fin 32768)
    (h : Member (fun n => mk (ix1 n)) k n) : exps mk s (ix1 n) = Ideal.exp (((S n : ℝ) : EReal) - (M : EReal)) := by
  rw [← hs, ← hM, ← gather_apply (segMax mk s) (starts mk) n k (starts_member mk n k h)]
  rfl

/-- The sum of the exponentials of a segment whose maximum is the real number `M`. -/
theorem denom_real (k : Fin 16) (M : ℝ) (hM : segMax mk s (ix1 k) = (M : EReal)) : denom mk s (ix1 k)
    = ∑ n, if Member (fun n => mk (ix1 n)) k n then Ideal.exp (((S n : ℝ) : EReal) - (M : EReal)) else 0 := by
  have z : (broadcastInDim S16 ![] bcast_S_S16 (constant (F := Ideal) S_ .f32 0x00000000#32) : FVec Ideal S16 .f32) (ix1 k) = 0 := by
    pointwise []
  unfold denom
  rw [scatter1_apply, z, zero_add]
  refine Finset.sum_congr rfl fun n _ => ?_
  rw [column_apply]
  by_cases h : BitVec.ofNat 32 k.val = mk (ix1 n)
  · rw [if_pos h, if_pos h, exps_real hs k M hM n h]
  · rw [if_neg h, if_neg h]

/-- The weight of a row of a segment whose maximum is the real number `M`. -/
theorem weights_real (k : Fin 16) (M : ℝ) (hM : segMax mk s (ix1 k) = (M : EReal)) (n : Fin 32768)
    (h : Member (fun n => mk (ix1 n)) k n) :
    weights mk s (ix1 n) = Ideal.div (Ideal.exp (((S n : ℝ) : EReal) - (M : EReal))) (denom mk s (ix1 k)) := by
  rw [← exps_real hs k M hM n h, ← gather_apply (denom mk s) (starts mk) n k (starts_member mk n k h)]
  unfold weights
  exact divf_apply _ _ _

end Real

/-- WHAT THE REFERENCE COMPUTES on real arguments: at segment `k` and column `d`, the weighted sum of the segment's rows over the
    sum of their exponentials. -/
theorem result_real {x : FVec Ideal S32768x128 .f32} {mk : IVec S32768 32} {W : FVec Ideal S64x128 .f32} {b v : FVec Ideal S64 .f32}
    {X : Fin 32768 → Fin 128 → ℝ} {W' : Fin 64 → Fin 128 → ℝ} {b' v' : Fin 64 → ℝ}
    (hx : ∀ n d, x (ix2 n d) = ((X n d : ℝ) : EReal)) (hW : ∀ a d, W (ix2 a d) = ((W' a d : ℝ) : EReal))
    (hb : ∀ a, b (ix1 a) = ((b' a : ℝ) : EReal)) (hv : ∀ a, v (ix1 a) = ((v' a : ℝ) : EReal)) (k : Fin 16) (d : Fin 128) :
    result x mk W b v (ix2 k d)
      = (((∑ n, wterm (score X W' b' v') (fun n => X n d) (fun n => mk (ix1 n)) k n)
          / ∑ n, term (score X W' b' v') (fun n => mk (ix1 n)) k n : ℝ) : EReal) := by
  have hs : ∀ n, scores x W b v (ix1 n) = ((score X W' b' v' n : ℝ) : EReal) := fun n => by
    rw [scores_apply]
    simp only [hx, hW, hb, hv, score, EReal.coe_add, coe_sum, EReal.coe_mul]
  have z : (broadcastInDim S16x128 ![] bcast_S_S16x128 (constant (F := Ideal) S_ .f32 0x00000000#32) : FVec Ideal S16x128 .f32) (ix2 k d) = 0 := by
    pointwise []
  unfold result
  rw [scatter2_apply, z, zero_add]
  simp only [column_apply, weighted_apply, hx]
  rcases max_members (Member (fun n => mk (ix1 n)) k) (score X W' b' v') with ⟨hp, _⟩ | ⟨_, M, hM⟩
  · have e1 : ∀ n, wterm (score X W' b' v') (fun n => X n d) (fun n => mk (ix1 n)) k n = 0 := fun n => if_neg (hp n)
    rw [Finset.sum_eq_zero fun n _ => if_neg (hp n), Finset.sum_eq_zero fun n _ => e1 n, zero_div, EReal.coe_zero]
  · rw [← segMax_real hs] at hM
    have t := two_pass (Member (fun n => mk (ix1 n)) k) (score X W' b' v') (fun n => X n d) M _ (denom_real hs k M hM)
    refine Eq.trans (Finset.sum_congr rfl fun n _ => ?_) t
    by_cases h : BitVec.ofNat 32 k.val = mk (ix1 n)
    · rw [if_pos h, if_pos h, weights_real hs k M hM n h]
    · rw [if_neg h, if_neg h]

end Cert.Proof.RefValue

end
-- ==== Proof.Equation.lean ====
module

public import proofs.«01_k».proof.Proof.Finite
public import proofs.«01_k».proof.Proof.Fold
public import proofs.«01_k».proof.Proof.RefValue
public import proofs.«01_k».proof.Defs

@[expose] public section

noncomputable section

namespace Cert.Proof.Equation

open Idealize.ShloMosaic Idealize.SL.Sem
open Cert.Proof.Sums

/-!
  The equation of the two programs: on arguments that satisfy the precondition, the reference's result is the kernel's output array.
-/

/-- The kernel's arguments, once they satisfy the precondition, are their real parts. -/
theorem args_real [Cert.Pre_finite_floats.Facts] (m : (ℓ : Loc Cert.KernelIdeal.nD Cert.KernelIdeal.τ Cert.KernelIdeal.sig) → Buf (Elt Ideal) ℓ)
    (hpre : Pre_KernelIdeal_finite_floats m) (c : Dev Cert.KernelIdeal.nD) : ∃ X W b v, Fold.RealArgs m c X W b v := by
  obtain ⟨hx, hW, hb, hv⟩ := Finite.fn_real (hpre c)
  exact ⟨fun n d => _, fun a d => _, fun a => _, fun a => _, fun n d => hx (ix2 n d), fun a d => hW (ix2 a d), fun a => hb (ix1 a), fun a => hv (ix1 a)⟩

/-- THE EQUATION: from memories that agree on the arguments, the reference's result is the kernel's output array. -/
theorem value_eq [Cert.Pre_finite_floats.Facts] (m : (ℓ : Loc Cert.KernelIdeal.nD Cert.KernelIdeal.τ Cert.KernelIdeal.sig) → Buf (Elt Ideal) ℓ)
    (hpre : Pre_KernelIdeal_finite_floats m) (c : Dev Cert.KernelIdeal.nD) :
    RefValue.result (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
    = Cert.KernelIdeal.Value.G5 m c := by
  obtain ⟨X, W, b, v, hR⟩ := args_real m hpre c
  funext i
  rw [eq_ix2 i]
  exact (RefValue.result_real hR.x hR.W hR.b hR.v (i 0) (i 1)).trans (Fold.kernel_value hR (i 0) (i 1)).symm

end Cert.Proof.Equation

end
-- ==== Proof.lean ====
/- The proof of the certificate's claims (`Cert.Claim`, stated in Defs.lean). The frame claims of the kernel and of its idealized
   form are the generated ones; the reference declares no semaphore, so its frame claim is its run, weakened. The value claim
   runs both programs and rests on the equation of their results (Proof/Equation.lean). -/
module

public import proofs.«01_k».proof.Defs
public import proofs.«01_k».proof.Proof.Gen.Kernel.Frame
public import proofs.«01_k».proof.Proof.Gen.KernelIdeal.Value
public import proofs.«01_k».proof.Proof.Gen.Pre_finite_floats
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference terminates without a fault, leaves its arguments as they were and every semaphore at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from a memory that satisfies the precondition. -/
theorem quiescent_ReferenceIdeal_pre_finite_floats : quiescent_ReferenceIdeal_pre_finite_floats := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments and satisfy the precondition, the kernel's result is the reference's. -/
theorem algebraic_KernelIdeal_ReferenceIdeal : algebraic_KernelIdeal_ReferenceIdeal_pre_finite_floats := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4⟩ := hagree c
  refine ((h c).1.trans (RefValue.res_eq m' c)).trans ?_
  rw [← Equation.value_eq m hpre c, ← e0, ← e1, ← e2, ← e3, ← e4]

/-- All the claims. -/
theorem claim : Cert.Claim := ⟨Cert.Kernel.Gen.facts, Cert.KernelIdeal.Gen.facts, Cert.ReferenceIdeal.Gen.facts, Cert.Pre_finite_floats.Gen.facts,
  fun m ρ _ => Cert.Kernel.Gen.frame m ρ,
  fun m ρ _ => Cert.KernelIdeal.Gen.frame m ρ, fun m ρ _ => Cert.KernelIdeal.Gen.frame m ρ,
  quiescent_ReferenceIdeal, quiescent_ReferenceIdeal_pre_finite_floats,
  (trivial : preserves_Kernel_KernelIdeal), algebraic_KernelIdeal_ReferenceIdeal⟩

end Cert.Proof

end
